-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_bounded [hPre_rows_bounded : Cert.Pre_rows_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_rows_bounded.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_bounded [hPre_rows_bounded : Cert.Pre_rows_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_bounded.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_rows_bounded [hKernelIdeal : Cert.KernelIdeal.Facts] [hPre_rows_bounded : Cert.Pre_rows_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_rows_bounded [hReferenceIdeal : Cert.ReferenceIdeal.Facts] [hPre_rows_bounded : Cert.Pre_rows_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_rows_bounded [hKernelIdeal : Cert.KernelIdeal.Facts] [hReferenceIdeal : Cert.ReferenceIdeal.Facts] [hPre_rows_bounded : Cert.Pre_rows_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_rows_bounded : Cert.Pre_rows_bounded.Facts),
    quiescent_Kernel (hKernel := hKernel)
    ∧ quiescent_KernelIdeal (hKernelIdeal := hKernelIdeal)
    ∧ quiescent_KernelIdeal_pre_rows_bounded (hKernelIdeal := hKernelIdeal) (hPre_rows_bounded := hPre_rows_bounded)
    ∧ quiescent_ReferenceIdeal (hReferenceIdeal := hReferenceIdeal)
    ∧ quiescent_ReferenceIdeal_pre_rows_bounded (hReferenceIdeal := hReferenceIdeal) (hPre_rows_bounded := hPre_rows_bounded)
    ∧ preserves_Kernel_KernelIdeal
    ∧ algebraic_KernelIdeal_ReferenceIdeal_pre_rows_bounded (hKernelIdeal := hKernelIdeal) (hReferenceIdeal := hReferenceIdeal) (hPre_rows_bounded := hPre_rows_bounded)
-- ==== Pre_rows_bounded.lean ====
abbrev S5x32768x1000 : Shape := ⟨3, ![5, 32768, 1000]⟩
abbrev S_ : Shape := ⟨0, ![]⟩
abbrev S5x32768 : Shape := ⟨2, ![5, 32768]⟩
abbrev S5x32768x1 : Shape := ⟨3, ![5, 32768, 1]⟩

class Facts : Prop where
  reducesTo_S5x32768x1000_S5x32768_d2 : S5x32768x1000.ReducesTo [2] S5x32768
  h_S_ : 0 < S_.numel
  bcast_S5x32768_S5x32768x1_0_1 : S5x32768.BroadcastsInDim S5x32768x1 (![0, 1] : Fin 2 → Fin S5x32768x1.rank)
  bcast_S_S5x32768x1000 : S_.BroadcastsInDim S5x32768x1000 (![] : Fin 0 → Fin S5x32768x1000.rank)
  bcast_S_S5x32768x1 : S_.BroadcastsInDim S5x32768x1 (![] : Fin 0 → Fin S5x32768x1.rank)
  bcast_S5x32768x1_S5x32768x1000_0_1_2 : S5x32768x1.BroadcastsInDim S5x32768x1000 (![0, 1, 2] : Fin 3 → Fin S5x32768x1000.rank)

variable [Facts]

def fn {F : FTy → Type} [FloatOps F] (main_arg0 : FVec F S5x32768x1000 .f32) : IVec S5x32768x1000 1 :=
  let main_cst : FVec F S_ .f32 := constant S_ .f32 0xFF800000#32
  let main_v0 : FVec F S5x32768 .f32 := (fun x v => Host.reduce FloatOps.maximumf x v reducesTo_S5x32768x1000_S5x32768_d2 h_S_) main_arg0 main_cst
  let main_v1 : FVec F S5x32768x1 .f32 := broadcastInDim S5x32768x1 ![0, 1] bcast_S5x32768_S5x32768x1_0_1 main_v0
  let main_cst_0 : FVec F S_ .f32 := constant S_ .f32 0x7F800000#32
  let main_v2 : FVec F S5x32768x1000 .f32 := broadcastInDim S5x32768x1000 ![] bcast_S_S5x32768x1000 main_cst_0
  let main_v3 : IVec S5x32768x1000 1 := cmpf .olt main_arg0 main_v2
  let main_cst_1 : FVec F S_ .f32 := constant S_ .f32 0xFF800000#32
  let main_v4 : FVec F S5x32768x1 .f32 := broadcastInDim S5x32768x1 ![] bcast_S_S5x32768x1 main_cst_1
  let main_v5 : IVec S5x32768x1 1 := cmpf .ogt main_v1 main_v4
  let main_v6 : IVec S5x32768x1000 1 := broadcastInDim S5x32768x1000 ![0, 1, 2] bcast_S5x32768x1_S5x32768x1000_0_1_2 main_v5
  let main_v7 : IVec S5x32768x1000 1 := andi main_v3 main_v6
  main_v7
-- ==== Kernel.lean ====
abbrev S5x32768x1000 : Shape := ⟨3, ![5, 32768, 1000]⟩
abbrev S5x1000x32768 : Shape := ⟨3, ![5, 1000, 32768]⟩
abbrev S32x1x1 : Shape := ⟨3, ![32, 1, 1]⟩
abbrev S5x1000x1024 : Shape := ⟨3, ![5, 1000, 1024]⟩
abbrev S1x1x1 : Shape := ⟨3, ![1, 1, 1]⟩
abbrev S8x1024 : Shape := ⟨2, ![8, 1024]⟩
abbrev S1x8x1024 : Shape := ⟨3, ![1, 8, 1024]⟩
abbrev S1024 : Shape := ⟨1, ![1024]⟩
abbrev S1x1024 : Shape := ⟨2, ![1, 1024]⟩
abbrev S1x1x1024 : Shape := ⟨3, ![1, 1, 1024]⟩
abbrev S1 : Shape := ⟨1, ![1]⟩
abbrev S1x1 : Shape := ⟨2, ![1, 1]⟩
abbrev S_ : Shape := ⟨0, ![]⟩

abbrev nBuf : Space → Nat
  | .hbm => 7
  | .vmem => 4
  | .smem => 0
  | _ => 0

abbrev bufTy : (tb : Table) → Fin (tcTables nBuf tb) → BufTy
  | .hbm, ⟨0, _⟩ => ⟨S5x32768x1000, .f32⟩
  | .hbm, ⟨1, _⟩ => ⟨S5x1000x32768, .f32⟩
  | .hbm, ⟨2, _⟩ => ⟨S32x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S5x1000x1024, .f32⟩
  | .local _ .vmem, ⟨1, _⟩ => ⟨S5x1000x1024, .f32⟩
  | .local _ .vmem, ⟨2, _⟩ => ⟨S1x1x1, .f32⟩
  | .local _ .vmem, ⟨3, _⟩ => ⟨S1x1x1, .f32⟩
  | _, _ => ⟨S5x32768x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5x1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S5x32768x1000 : Shape := ⟨3, ![5, 32768, 1000]⟩
abbrev S_ : Shape := ⟨0, ![]⟩
abbrev S5x32768 : Shape := ⟨2, ![5, 32768]⟩
abbrev S32768 : Shape := ⟨1, ![32768]⟩
abbrev S32768x1000 : Shape := ⟨2, ![32768, 1000]⟩
abbrev S1x32768 : Shape := ⟨2, ![1, 32768]⟩
abbrev S32768x1 : Shape := ⟨2, ![32768, 1]⟩
abbrev S32768x2 : Shape := ⟨2, ![32768, 2]⟩
abbrev S5x32768x1 : Shape := ⟨3, ![5, 32768, 1]⟩
abbrev S1x32768x1 : Shape := ⟨3, ![1, 32768, 1]⟩
abbrev S5x32768x1x1 : Shape := ⟨4, ![5, 32768, 1, 1]⟩
abbrev S1 : Shape := ⟨1, ![1]⟩
abbrev S1x1x1x1 : Shape := ⟨4, ![1, 1, 1, 1]⟩
abbrev S5 : Shape := ⟨1, ![5]⟩

abbrev nBuf : Space → Nat
  | .hbm => 276
  | .vmem => 0
  | .smem => 0
  | _ => 0

abbrev hbmTy0_0 (i : Nat) : BufTy := match i % 128 with
  | 0 => ⟨S5x32768x1000, .f32⟩
  | 1 => ⟨S5x32768x1000, .i32⟩
  | 2 => ⟨S_, .f32⟩
  | 3 => ⟨S_, .i32⟩
  | 4 => ⟨S5x32768, .f32⟩
  | 5 => ⟨S5x32768, .i32⟩
  | 6 => ⟨S32768, .i32⟩
  | 7 => ⟨S_, .i32⟩
  | 8 => ⟨S32768x1000, .i32⟩
  | 9 => ⟨S_, .i32⟩
  | 10 => ⟨S32768, .i32⟩
  | 11 => ⟨S_, .i32⟩
  | 12 => ⟨S32768, .i32⟩
  | 13 => ⟨S1x32768, .i32⟩
  | 14 => ⟨S32768, .i32⟩
  | 15 => ⟨S_, .i32⟩
  | 16 => ⟨S32768, .i32⟩
  | 17 => ⟨S32768, .i1⟩
  | 18 => ⟨S_, .i32⟩
  | 19 => ⟨S32768, .i32⟩
  | 20 => ⟨S32768, .i32⟩
  | 21 => ⟨S32768, .i32⟩
  | 22 => ⟨S_, .i32⟩
  | 23 => ⟨S32768, .i32⟩
  | 24 => ⟨S32768, .i1⟩
  | 25 => ⟨S_, .i32⟩
  | 26 => ⟨S32768, .i32⟩
  | 27 => ⟨S32768, .i32⟩
  | 28 => ⟨S32768, .i32⟩
  | 29 => ⟨S32768x1, .i32⟩
  | 30 => ⟨S32768x1, .i32⟩
  | 31 => ⟨S32768x2, .i32⟩
  | 32 => ⟨S_, .i32⟩
  | 33 => ⟨S32768, .i32⟩
  | 34 => ⟨S32768x1000, .i32⟩
  | 35 => ⟨S_, .i32⟩
  | 36 => ⟨S32768, .i32⟩
  | 37 => ⟨S32768, .i1⟩
  | 38 => ⟨S_, .i32⟩
  | 39 => ⟨S32768, .i32⟩
  | 40 => ⟨S32768, .i32⟩
  | 41 => ⟨S32768, .i32⟩
  | 42 => ⟨S_, .i32⟩
  | 43 => ⟨S32768, .i32⟩
  | 44 => ⟨S32768, .i1⟩
  | 45 => ⟨S_, .i32⟩
  | 46 => ⟨S32768, .i32⟩
  | 47 => ⟨S32768, .i32⟩
  | 48 => ⟨S32768, .i32⟩
  | 49 => ⟨S32768x1, .i32⟩
  | 50 => ⟨S32768x1, .i32⟩
  | 51 => ⟨S32768x2, .i32⟩
  | 52 => ⟨S32768, .i32⟩
  | 53 => ⟨S32768, .i1⟩
  | 54 => ⟨S32768, .i32⟩
  | 55 => ⟨S32768, .i32⟩
  | 56 => ⟨S1x32768, .i32⟩
  | 57 => ⟨S32768, .i32⟩
  | 58 => ⟨S_, .i32⟩
  | 59 => ⟨S32768, .i32⟩
  | 60 => ⟨S32768, .i1⟩
  | 61 => ⟨S_, .i32⟩
  | 62 => ⟨S32768, .i32⟩
  | 63 => ⟨S32768, .i32⟩
  | 64 => ⟨S32768, .i32⟩
  | 65 => ⟨S_, .i32⟩
  | 66 => ⟨S32768, .i32⟩
  | 67 => ⟨S32768, .i1⟩
  | 68 => ⟨S_, .i32⟩
  | 69 => ⟨S32768, .i32⟩
  | 70 => ⟨S32768, .i32⟩
  | 71 => ⟨S32768, .i32⟩
  | 72 => ⟨S32768x1, .i32⟩
  | 73 => ⟨S32768x1, .i32⟩
  | 74 => ⟨S32768x2, .i32⟩
  | 75 => ⟨S_, .i32⟩
  | 76 => ⟨S32768, .i32⟩
  | 77 => ⟨S32768x1000, .i32⟩
  | 78 => ⟨S_, .i32⟩
  | 79 => ⟨S32768, .i32⟩
  | 80 => ⟨S32768, .i1⟩
  | 81 => ⟨S_, .i32⟩
  | 82 => ⟨S32768, .i32⟩
  | 83 => ⟨S32768, .i32⟩
  | 84 => ⟨S32768, .i32⟩
  | 85 => ⟨S_, .i32⟩
  | 86 => ⟨S32768, .i32⟩
  | 87 => ⟨S32768, .i1⟩
  | 88 => ⟨S_, .i32⟩
  | 89 => ⟨S32768, .i32⟩
  | 90 => ⟨S32768, .i32⟩
  | 91 => ⟨S32768, .i32⟩
  | 92 => ⟨S32768x1, .i32⟩
  | 93 => ⟨S32768x1, .i32⟩
  | 94 => ⟨S32768x2, .i32⟩
  | 95 => ⟨S32768, .i32⟩
  | 96 => ⟨S32768, .i1⟩
  | 97 => ⟨S32768, .i32⟩
  | 98 => ⟨S32768, .i32⟩
  | 99 => ⟨S1x32768, .i32⟩
  | 100 => ⟨S32768, .i32⟩
  | 101 => ⟨S_, .i32⟩
  | 102 => ⟨S32768, .i32⟩
  | 103 => ⟨S32768, .i1⟩
  | 104 => ⟨S_, .i32⟩
  | 105 => ⟨S32768, .i32⟩
  | 106 => ⟨S32768, .i32⟩
  | 107 => ⟨S32768, .i32⟩
  | 108 => ⟨S_, .i32⟩
  | 109 => ⟨S32768, .i32⟩
  | 110 => ⟨S32768, .i1⟩
  | 111 => ⟨S_, .i32⟩
  | 112 => ⟨S32768, .i32⟩
  | 113 => ⟨S32768, .i32⟩
  | 114 => ⟨S32768, .i32⟩
  | 115 => ⟨S32768x1, .i32⟩
  | 116 => ⟨S32768x1, .i32⟩
  | 117 => ⟨S32768x2, .i32⟩
  | 118 => ⟨S_, .i32⟩
  | 119 => ⟨S32768, .i32⟩
  | 120 => ⟨S32768x1000, .i32⟩
  | 121 => ⟨S_, .i32⟩
  | 122 => ⟨S32768, .i32⟩
  | 123 => ⟨S32768, .i1⟩
  | 124 => ⟨S_, .i32⟩
  | 125 => ⟨S32768, .i32⟩
  | 126 => ⟨S32768, .i32⟩
  | 127 => ⟨S32768, .i32⟩
  | _ => ⟨S5x32768x1000, .f32⟩

abbrev hbmTy0_1 (i : Nat) : BufTy := match i % 128 with
  | 0 => ⟨S_, .i32⟩
  | 1 => ⟨S32768, .i32⟩
  | 2 => ⟨S32768, .i1⟩
  | 3 => ⟨S_, .i32⟩
  | 4 => ⟨S32768, .i32⟩
  | 5 => ⟨S32768, .i32⟩
  | 6 => ⟨S32768, .i32⟩
  | 7 => ⟨S32768x1, .i32⟩
  | 8 => ⟨S32768x1, .i32⟩
  | 9 => ⟨S32768x2, .i32⟩
  | 10 => ⟨S32768, .i32⟩
  | 11 => ⟨S32768, .i1⟩
  | 12 => ⟨S32768, .i32⟩
  | 13 => ⟨S32768, .i32⟩
  | 14 => ⟨S1x32768, .i32⟩
  | 15 => ⟨S32768, .i32⟩
  | 16 => ⟨S_, .i32⟩
  | 17 => ⟨S32768, .i32⟩
  | 18 => ⟨S32768, .i1⟩
  | 19 => ⟨S_, .i32⟩
  | 20 => ⟨S32768, .i32⟩
  | 21 => ⟨S32768, .i32⟩
  | 22 => ⟨S32768, .i32⟩
  | 23 => ⟨S_, .i32⟩
  | 24 => ⟨S32768, .i32⟩
  | 25 => ⟨S32768, .i1⟩
  | 26 => ⟨S_, .i32⟩
  | 27 => ⟨S32768, .i32⟩
  | 28 => ⟨S32768, .i32⟩
  | 29 => ⟨S32768, .i32⟩
  | 30 => ⟨S32768x1, .i32⟩
  | 31 => ⟨S32768x1, .i32⟩
  | 32 => ⟨S32768x2, .i32⟩
  | 33 => ⟨S_, .i32⟩
  | 34 => ⟨S32768, .i32⟩
  | 35 => ⟨S32768x1000, .i32⟩
  | 36 => ⟨S_, .i32⟩
  | 37 => ⟨S32768, .i32⟩
  | 38 => ⟨S32768, .i1⟩
  | 39 => ⟨S_, .i32⟩
  | 40 => ⟨S32768, .i32⟩
  | 41 => ⟨S32768, .i32⟩
  | 42 => ⟨S32768, .i32⟩
  | 43 => ⟨S_, .i32⟩
  | 44 => ⟨S32768, .i32⟩
  | 45 => ⟨S32768, .i1⟩
  | 46 => ⟨S_, .i32⟩
  | 47 => ⟨S32768, .i32⟩
  | 48 => ⟨S32768, .i32⟩
  | 49 => ⟨S32768, .i32⟩
  | 50 => ⟨S32768x1, .i32⟩
  | 51 => ⟨S32768x1, .i32⟩
  | 52 => ⟨S32768x2, .i32⟩
  | 53 => ⟨S32768, .i32⟩
  | 54 => ⟨S32768, .i1⟩
  | 55 => ⟨S32768, .i32⟩
  | 56 => ⟨S32768, .i32⟩
  | 57 => ⟨S1x32768, .i32⟩
  | 58 => ⟨S32768, .i32⟩
  | 59 => ⟨S_, .i32⟩
  | 60 => ⟨S32768, .i32⟩
  | 61 => ⟨S32768, .i1⟩
  | 62 => ⟨S_, .i32⟩
  | 63 => ⟨S32768, .i32⟩
  | 64 => ⟨S32768, .i32⟩
  | 65 => ⟨S32768, .i32⟩
  | 66 => ⟨S_, .i32⟩
  | 67 => ⟨S32768, .i32⟩
  | 68 => ⟨S32768, .i1⟩
  | 69 => ⟨S_, .i32⟩
  | 70 => ⟨S32768, .i32⟩
  | 71 => ⟨S32768, .i32⟩
  | 72 => ⟨S32768, .i32⟩
  | 73 => ⟨S32768x1, .i32⟩
  | 74 => ⟨S32768x1, .i32⟩
  | 75 => ⟨S32768x2, .i32⟩
  | 76 => ⟨S_, .i32⟩
  | 77 => ⟨S32768, .i32⟩
  | 78 => ⟨S32768x1000, .i32⟩
  | 79 => ⟨S_, .i32⟩
  | 80 => ⟨S32768, .i32⟩
  | 81 => ⟨S32768, .i1⟩
  | 82 => ⟨S_, .i32⟩
  | 83 => ⟨S32768, .i32⟩
  | 84 => ⟨S32768, .i32⟩
  | 85 => ⟨S32768, .i32⟩
  | 86 => ⟨S_, .i32⟩
  | 87 => ⟨S32768, .i32⟩
  | 88 => ⟨S32768, .i1⟩
  | 89 => ⟨S_, .i32⟩
  | 90 => ⟨S32768, .i32⟩
  | 91 => ⟨S32768, .i32⟩
  | 92 => ⟨S32768, .i32⟩
  | 93 => ⟨S32768x1, .i32⟩
  | 94 => ⟨S32768x1, .i32⟩
  | 95 => ⟨S32768x2, .i32⟩
  | 96 => ⟨S32768, .i32⟩
  | 97 => ⟨S32768, .i1⟩
  | 98 => ⟨S32768, .i32⟩
  | 99 => ⟨S32768, .i32⟩
  | 100 => ⟨S_, .f32⟩
  | 101 => ⟨S5x32768, .f32⟩
  | 102 => ⟨S_, .f32⟩
  | 103 => ⟨S5x32768, .f32⟩
  | 104 => ⟨S5x32768, .f32⟩
  | 105 => ⟨S5x32768x1, .f32⟩
  | 106 => ⟨S5x32768x1000, .f32⟩
  | 107 => ⟨S5x32768x1000, .f32⟩
  | 108 => ⟨S5x32768x1000, .f32⟩
  | 109 => ⟨S_, .f32⟩
  | 110 => ⟨S5x32768, .f32⟩
  | 111 => ⟨S5x32768x1, .f32⟩
  | 112 => ⟨S5x32768x1, .f32⟩
  | 113 => ⟨S5x32768x1000, .f32⟩
  | 114 => ⟨S5x32768x1000, .f32⟩
  | 115 => ⟨S1x32768x1, .i32⟩
  | 116 => ⟨S5x32768x1, .i32⟩
  | 117 => ⟨S_, .i32⟩
  | 118 => ⟨S5x32768x1, .i32⟩
  | 119 => ⟨S5x32768x1, .i1⟩
  | 120 => ⟨S_, .i32⟩
  | 121 => ⟨S5x32768x1, .i32⟩
  | 122 => ⟨S5x32768x1, .i32⟩
  | 123 => ⟨S5x32768x1, .i32⟩
  | 124 => ⟨S5x32768x1x1, .i32⟩
  | 125 => ⟨S1, .i32⟩
  | 126 => ⟨S_, .i32⟩
  | 127 => ⟨S5x32768x1x1, .i32⟩
  | _ => ⟨S5x32768x1000, .f32⟩

abbrev hbmTy0_2 (i : Nat) : BufTy := match i % 128 with
  | 0 => ⟨S5x32768x1x1, .i1⟩
  | 1 => ⟨S1x1x1x1, .i32⟩
  | 2 => ⟨S5x32768x1x1, .i32⟩
  | 3 => ⟨S5x32768x1x1, .i1⟩
  | 4 => ⟨S5x32768x1x1, .i1⟩
  | 5 => ⟨S_, .i1⟩
  | 6 => ⟨S5x32768x1, .i1⟩
  | 7 => ⟨S5x32768x1, .f32⟩
  | 8 => ⟨S_, .f32⟩
  | 9 => ⟨S5x32768x1, .f32⟩
  | 10 => ⟨S5x32768x1, .f32⟩
  | 11 => ⟨S5x32768, .f32⟩
  | 12 => ⟨S_, .f32⟩
  | 13 => ⟨S5, .f32⟩
  | 14 => ⟨S_, .f32⟩
  | 15 => ⟨S5, .f32⟩
  | 16 => ⟨S5, .f32⟩
  | 17 => ⟨S_, .f32⟩
  | 18 => ⟨S_, .f32⟩
  | 19 => ⟨S_, .f32⟩
  | _ => ⟨S5x32768x1000, .f32⟩

abbrev hbmTy (i : Nat) : BufTy := match i / 128 with
  | 0 => hbmTy0_0 i
  | 1 => hbmTy0_1 i
  | 2 => hbmTy0_2 i
  | _ => ⟨S5x32768x1000, .f32⟩

abbrev bufTy : (tb : Table) → Fin (tcTables nBuf tb) → BufTy
  | .hbm, ⟨i, _⟩ => hbmTy i
  | _, _ => ⟨S5x32768x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_c_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_v23 : Ref sig .tc := ⟨.hbm, 37, rfl⟩
abbrev main_c_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_9 : Ref sig .tc := ⟨.hbm, 42, rfl⟩
abbrev main_v27 : Ref sig .tc := ⟨.hbm, 43, rfl⟩
abbrev main_v28 : Ref sig .tc := ⟨.hbm, 44, rfl⟩
abbrev main_c_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_11 : Ref sig .tc := ⟨.hbm, 58, rfl⟩
abbrev main_v41 : Ref sig .tc := ⟨.hbm, 59, rfl⟩
abbrev main_v42 : Ref sig .tc := ⟨.hbm, 60, rfl⟩
abbrev main_c_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_13 : Ref sig .tc := ⟨.hbm, 65, rfl⟩
abbrev main_v46 : Ref sig .tc := ⟨.hbm, 66, rfl⟩
abbrev main_v47 : Ref sig .tc := ⟨.hbm, 67, rfl⟩
abbrev main_c_14 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_15 : Ref sig .tc := ⟨.hbm, 75, rfl⟩
abbrev main_v54 : Ref sig .tc := ⟨.hbm, 76, rfl⟩
abbrev main_v55 : Ref sig .tc := ⟨.hbm, 77, rfl⟩
abbrev main_c_16 : Ref sig .tc := ⟨.hbm, 78, rfl⟩
abbrev main_v56 : Ref sig .tc := ⟨.hbm, 79, rfl⟩
abbrev main_v57 : Ref sig .tc := ⟨.hbm, 80, rfl⟩
abbrev main_c_17 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_18 : Ref sig .tc := ⟨.hbm, 85, rfl⟩
abbrev main_v61 : Ref sig .tc := ⟨.hbm, 86, rfl⟩
abbrev main_v62 : Ref sig .tc := ⟨.hbm, 87, rfl⟩
abbrev main_c_19 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_20 : Ref sig .tc := ⟨.hbm, 101, rfl⟩
abbrev main_v75 : Ref sig .tc := ⟨.hbm, 102, rfl⟩
abbrev main_v76 : Ref sig .tc := ⟨.hbm, 103, rfl⟩
abbrev main_c_21 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_22 : Ref sig .tc := ⟨.hbm, 108, rfl⟩
abbrev main_v80 : Ref sig .tc := ⟨.hbm, 109, rfl⟩
abbrev main_v81 : Ref sig .tc := ⟨.hbm, 110, rfl⟩
abbrev main_c_23 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_24 : Ref sig .tc := ⟨.hbm, 118, rfl⟩
abbrev main_v88 : Ref sig .tc := ⟨.hbm, 119, rfl⟩
abbrev main_v89 : Ref sig .tc := ⟨.hbm, 120, rfl⟩
abbrev main_c_25 : Ref sig .tc := ⟨.hbm, 121, rfl⟩
abbrev main_v90 : Ref sig .tc := ⟨.hbm, 122, rfl⟩
abbrev main_v91 : Ref sig .tc := ⟨.hbm, 123, rfl⟩
abbrev main_c_26 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_c_27 : Ref sig .tc := ⟨.hbm, 128, rfl⟩
abbrev main_v95 : Ref sig .tc := ⟨.hbm, 129, rfl⟩
abbrev main_v96 : Ref sig .tc := ⟨.hbm, 130, rfl⟩
abbrev main_c_28 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_29 : Ref sig .tc := ⟨.hbm, 144, rfl⟩
abbrev main_v109 : Ref sig .tc := ⟨.hbm, 145, rfl⟩
abbrev main_v110 : Ref sig .tc := ⟨.hbm, 146, rfl⟩
abbrev main_c_30 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_c_31 : Ref sig .tc := ⟨.hbm, 151, rfl⟩
abbrev main_v114 : Ref sig .tc := ⟨.hbm, 152, rfl⟩
abbrev main_v115 : Ref sig .tc := ⟨.hbm, 153, rfl⟩
abbrev main_c_32 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_c_33 : Ref sig .tc := ⟨.hbm, 161, rfl⟩
abbrev main_v122 : Ref sig .tc := ⟨.hbm, 162, rfl⟩
abbrev main_v123 : Ref sig .tc := ⟨.hbm, 163, rfl⟩
abbrev main_c_34 : Ref sig .tc := ⟨.hbm, 164, rfl⟩
abbrev main_v124 : Ref sig .tc := ⟨.hbm, 165, rfl⟩
abbrev main_v125 : Ref sig .tc := ⟨.hbm, 166, rfl⟩
abbrev main_c_35 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_c_36 : Ref sig .tc := ⟨.hbm, 171, rfl⟩
abbrev main_v129 : Ref sig .tc := ⟨.hbm, 172, rfl⟩
abbrev main_v130 : Ref sig .tc := ⟨.hbm, 173, rfl⟩
abbrev main_c_37 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_c_38 : Ref sig .tc := ⟨.hbm, 187, rfl⟩
abbrev main_v143 : Ref sig .tc := ⟨.hbm, 188, rfl⟩
abbrev main_v144 : Ref sig .tc := ⟨.hbm, 189, rfl⟩
abbrev main_c_39 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_c_40 : Ref sig .tc := ⟨.hbm, 194, rfl⟩
abbrev main_v148 : Ref sig .tc := ⟨.hbm, 195, rfl⟩
abbrev main_v149 : Ref sig .tc := ⟨.hbm, 196, rfl⟩
abbrev main_c_41 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_c_42 : Ref sig .tc := ⟨.hbm, 204, rfl⟩
abbrev main_v156 : Ref sig .tc := ⟨.hbm, 205, rfl⟩
abbrev main_v157 : Ref sig .tc := ⟨.hbm, 206, rfl⟩
abbrev main_c_43 : Ref sig .tc := ⟨.hbm, 207, rfl⟩
abbrev main_v158 : Ref sig .tc := ⟨.hbm, 208, rfl⟩
abbrev main_v159 : Ref sig .tc := ⟨.hbm, 209, rfl⟩
abbrev main_c_44 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_c_45 : Ref sig .tc := ⟨.hbm, 214, rfl⟩
abbrev main_v163 : Ref sig .tc := ⟨.hbm, 215, rfl⟩
abbrev main_v164 : Ref sig .tc := ⟨.hbm, 216, rfl⟩
abbrev main_c_46 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_call11_cst : Ref sig .tc := ⟨.hbm, 228, rfl⟩
abbrev main_call11_v0 : Ref sig .tc := ⟨.hbm, 229, rfl⟩
abbrev main_call11_cst_0 : Ref sig .tc := ⟨.hbm, 230, rfl⟩
abbrev main_call11_v1 : Ref sig .tc := ⟨.hbm, 231, rfl⟩
abbrev main_call11_v2 : Ref sig .tc := ⟨.hbm, 232, rfl⟩
abbrev main_call11_v3 : Ref sig .tc := ⟨.hbm, 233, rfl⟩
abbrev main_call11_v4 : Ref sig .tc := ⟨.hbm, 234, rfl⟩
abbrev main_call11_v5 : Ref sig .tc := ⟨.hbm, 235, rfl⟩
abbrev main_call11_v6 : Ref sig .tc := ⟨.hbm, 236, rfl⟩
abbrev main_call11_cst_1 : Ref sig .tc := ⟨.hbm, 237, rfl⟩
abbrev main_call11_v7 : Ref sig .tc := ⟨.hbm, 238, rfl⟩
abbrev main_call11_v8 : Ref sig .tc := ⟨.hbm, 239, rfl⟩
abbrev main_call11_v9 : Ref sig .tc := ⟨.hbm, 240, rfl⟩
abbrev main_call11_v10 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_call12_c : Ref sig .tc := ⟨.hbm, 245, rfl⟩
abbrev main_call12_v0 : Ref sig .tc := ⟨.hbm, 246, rfl⟩
abbrev main_call12_v1 : Ref sig .tc := ⟨.hbm, 247, rfl⟩
abbrev main_call12_c_0 : Ref sig .tc := ⟨.hbm, 248, rfl⟩
abbrev main_call12_v2 : Ref sig .tc := ⟨.hbm, 249, rfl⟩
abbrev main_call12_v3 : Ref sig .tc := ⟨.hbm, 250, rfl⟩
abbrev main_call12_v4 : Ref sig .tc := ⟨.hbm, 251, rfl⟩
abbrev main_call12_v5 : Ref sig .tc := ⟨.hbm, 252, rfl⟩
abbrev main_call12_c_1 : Ref sig .tc := ⟨.hbm, 253, rfl⟩
abbrev main_call12_c_2 : Ref sig .tc := ⟨.hbm, 254, rfl⟩
abbrev main_call12_v6 : Ref sig .tc := ⟨.hbm, 255, rfl⟩
abbrev main_call12_v7 : Ref sig .tc := ⟨.hbm, 256, rfl⟩
abbrev main_call12_v8 : Ref sig .tc := ⟨.hbm, 257, rfl⟩
abbrev main_call12_v9 : Ref sig .tc := ⟨.hbm, 258, rfl⟩
abbrev main_call12_v10 : Ref sig .tc := ⟨.hbm, 259, rfl⟩
abbrev main_call12_v11 : Ref sig .tc := ⟨.hbm, 260, rfl⟩
abbrev main_call12_c_3 : Ref sig .tc := ⟨.hbm, 261, rfl⟩
abbrev main_call12_v12 : Ref sig .tc := ⟨.hbm, 262, rfl⟩
abbrev main_call12_v13 : Ref sig .tc := ⟨.hbm, 263, rfl⟩
abbrev main_call12_cst : Ref sig .tc := ⟨.hbm, 264, rfl⟩
abbrev main_call12_v14 : Ref sig .tc := ⟨.hbm, 265, rfl⟩
abbrev main_v178 : Ref sig .tc := ⟨.hbm, 266, rfl⟩
abbrev main_v179 : Ref sig .tc := ⟨.hbm, 267, rfl⟩
abbrev main_cst : Ref sig .tc := ⟨.hbm, 268, rfl⟩
abbrev main_v180 : Ref sig .tc := ⟨.hbm, 269, rfl⟩
abbrev main_cst_47 : Ref sig .tc := ⟨.hbm, 270, rfl⟩
abbrev main_v181 : Ref sig .tc := ⟨.hbm, 271, rfl⟩
abbrev main_v182 : Ref sig .tc := ⟨.hbm, 272, rfl⟩
abbrev main_cst_48 : Ref sig .tc := ⟨.hbm, 273, rfl⟩
abbrev main_v183 : Ref sig .tc := ⟨.hbm, 274, rfl⟩
abbrev main_v184 : Ref sig .tc := ⟨.hbm, 275, rfl⟩

abbrev nD : Nat := 1
abbrev τ : Topo := Topo.v7x

variable {F : FTy → Type} [FloatOps F]
-- ==== Proof.Algebra.lean ====
/-
  The arithmetic of one row and of the whole batch on the extended reals: a row whose entries lie
  below `⊤` and are not all `⊥` has a real sum of exponentials, shifting the row by a real number
  moves its log-sum-exp by that number, and the mean of the negated picked entries is the mean of
  the differences the kernel adds up.
-/
module

public import Idealize.ShloMosaic.PureOps.Ideal.Laws

@[expose] public section

namespace SelfLoss

open Idealize.ShloMosaic

/-- A row below `⊤` with an entry above `⊥`. -/
structure Row {n : ℕ} (f : Fin n → EReal) : Prop where
  lt_top : ∀ q, f q < ⊤
  bot_lt : ∃ q, ⊥ < f q

/-- The exponential of an extended real below `⊤` is a nonnegative real, positive above `⊥`. -/
theorem exp_real {x : EReal} (h : x < ⊤) : ∃ r : ℝ, 0 ≤ r ∧ Ideal.exp x = (r : EReal) ∧ (⊥ < x → 0 < r) := by
  induction x with
  | bot => exact ⟨0, le_refl _, by simp, fun h => absurd h (lt_irrefl _)⟩
  | top => exact absurd h (lt_irrefl _)
  | coe r => exact ⟨Real.exp r, (Real.exp_pos r).le, by simp, fun _ => Real.exp_pos r⟩

/-- Taking a real number off the exponent multiplies the exponential by that number's own. -/
theorem exp_sub_real {x : EReal} (h : x < ⊤) (m : ℝ) : Ideal.exp (x - (m : EReal)) = Ideal.exp x * ((Real.exp (-m) : ℝ) : EReal) := by
  induction x with
  | bot => simp [EReal.bot_sub]
  | top => exact absurd h (lt_irrefl _)
  | coe r =>
    rw [← EReal.coe_sub, Ideal.exp_coe, Ideal.exp_coe, ← EReal.coe_mul, ← Real.exp_add, sub_eq_add_neg]

/-- A finite sum of reals, read in the extended reals. -/
theorem coe_sum {ι : Type} (s : Finset ι) (g : ι → ℝ) : (((∑ q ∈ s, g q : ℝ)) : EReal) = ∑ q ∈ s, ((g q : ℝ) : EReal) := by
  classical
  induction s using Finset.induction_on with
  | empty => simp
  | insert a s ha ih => rw [Finset.sum_insert ha, Finset.sum_insert ha, EReal.coe_add, ih]

/-- A row's log-sum-exp. -/
noncomputable def lse {n : ℕ} (f : Fin n → EReal) : EReal := Ideal.log (∑ q, Ideal.exp (f q))

/-- The sum of a row's exponentials is a positive real, also after the row is shifted by a real number. -/
theorem sum_exp {n : ℕ} {f : Fin n → EReal} (h : Row f) :
    ∃ s : ℝ, 0 < s ∧ ∑ q, Ideal.exp (f q) = (s : EReal)
      ∧ ∀ m : ℝ, ∑ q, Ideal.exp (f q - (m : EReal)) = ((s * Real.exp (-m) : ℝ) : EReal) := by
  choose g hg0 hg hgp using fun q => exp_real (h.lt_top q)
  obtain ⟨p, hp⟩ := h.bot_lt
  refine ⟨∑ q, g q, ?_, ?_, fun m => ?_⟩
  · exact Finset.sum_pos' (fun q _ => hg0 q) ⟨p, Finset.mem_univ _, hgp p hp⟩
  · rw [coe_sum]; exact Finset.sum_congr rfl fun q _ => hg q
  · rw [Finset.sum_mul, coe_sum]
    refine Finset.sum_congr rfl fun q _ => ?_
    rw [exp_sub_real (h.lt_top q), hg, ← EReal.coe_mul]

/-- A row's log-sum-exp is real, and shifting the row by a real number moves it by that number. -/
theorem lse_real {n : ℕ} {f : Fin n → EReal} (h : Row f) :
    ∃ L : ℝ, lse f = (L : EReal) ∧ ∀ m : ℝ, Ideal.log (∑ q, Ideal.exp (f q - (m : EReal))) = ((L - m : ℝ) : EReal) := by
  obtain ⟨s, hs, e, em⟩ := sum_exp h
  refine ⟨Real.log s, ?_, fun m => ?_⟩
  · rw [lse, e, Ideal.log_coe, if_neg (not_le.2 hs)]
  · have hpos := mul_pos hs (Real.exp_pos (-m))
    rw [em, Ideal.log_coe, if_neg (not_le.2 hpos), Real.log_mul hs.ne' (Real.exp_pos _).ne', Real.log_exp,
      ← sub_eq_add_neg]

/-- The log-softmax entry in its shifted form is the entry minus the row's log-sum-exp. -/
theorem log_softmax {n : ℕ} {f : Fin n → EReal} (h : Row f) (m : ℝ) (p : Fin n) :
    (f p - (m : EReal)) - Ideal.log (∑ q, Ideal.exp (f q - (m : EReal))) = f p - lse f := by
  obtain ⟨L, e, em⟩ := lse_real h
  rw [em, e]
  have hp := h.lt_top p
  generalize f p = x at hp
  induction x with
  | bot => simp [EReal.bot_sub]
  | top => exact absurd hp (lt_irrefl _)
  | coe r => rw [← EReal.coe_sub, ← EReal.coe_sub, ← EReal.coe_sub]; congr 1; ring

/-- A finite sum with a `⊥` among its terms is `⊥`. -/
theorem sum_eq_bot {ι : Type} [Fintype ι] {g : ι → EReal} (p : ι) (h : g p = ⊥) : ∑ q, g q = ⊥ := by
  classical
  rw [← Finset.add_sum_erase _ _ (Finset.mem_univ p), h, EReal.bot_add]

/-- A finite sum of terms above `⊥` is above `⊥`. -/
theorem bot_lt_sum {ι : Type} (s : Finset ι) {g : ι → EReal} (h : ∀ q, ⊥ < g q) : ⊥ < ∑ q ∈ s, g q := by
  classical
  induction s using Finset.induction_on with
  | empty => simp
  | insert a s ha ih => rw [Finset.sum_insert ha]; exact EReal.bot_lt_add_iff.2 ⟨h a, ih⟩

/-- A finite sum of terms above `⊥` with a `⊤` among them is `⊤`. -/
theorem sum_eq_top {ι : Type} [Fintype ι] {g : ι → EReal} (h : ∀ q, ⊥ < g q) (p : ι) (hp : g p = ⊤) : ∑ q, g q = ⊤ := by
  classical
  rw [← Finset.add_sum_erase _ _ (Finset.mem_univ p), hp, EReal.top_add_of_ne_bot (bot_lt_sum _ h).ne']

/-- The batch: the negated sum over the models of the mean log-probability is the mean over the
    batch of the models' log-sum-exps minus their picked entries. -/
theorem total {J B : Type} [Fintype J] [Fintype B] (L : J → B → ℝ) (x : J → B → EReal) (hx : ∀ j b, x j b < ⊤) {c : ℝ} (hc : 0 < c) :
    -(∑ j, (∑ b, (x j b - (L j b : EReal))) * (c : EReal))
      = (∑ b, (∑ j, (L j b : EReal) - ∑ j, x j b)) * (c : EReal) := by
  by_cases hbot : ∃ j b, x j b = ⊥
  · obtain ⟨j, b, e⟩ := hbot
    have hl : ∑ j, (∑ b, (x j b - (L j b : EReal))) * (c : EReal) = ⊥ := by
      refine sum_eq_bot j ?_
      rw [sum_eq_bot b (by rw [e, EReal.bot_sub]), EReal.bot_mul_coe_of_pos hc]
    have hr : ∑ b, (∑ j, (L j b : EReal) - ∑ j, x j b) = ⊤ := by
      have key : ∀ b', ∑ j, (L j b' : EReal) - ∑ j, x j b' = -(∑ j, x j b') + ((∑ j, L j b' : ℝ) : EReal) := fun b' => by
        rw [← coe_sum, sub_eq_add_neg, add_comm]
      refine sum_eq_top (fun b' => ?_) b ?_
      · rw [key]
        refine EReal.bot_lt_add_iff.2 ⟨?_, EReal.bot_lt_coe _⟩
        rw [bot_lt_iff_ne_bot]
        intro h0
        rw [EReal.neg_eq_bot_iff] at h0
        have : ∀ s : Finset J, ∑ j ∈ s, x j b' < ⊤ := fun s => by
          classical
          induction s using Finset.induction_on with
          | empty => simp
          | insert a s ha ih => rw [Finset.sum_insert ha]; exact EReal.add_lt_top (hx a b').ne ih.ne
        exact (this Finset.univ).ne h0
      · rw [key, sum_eq_bot j e, EReal.neg_bot, EReal.top_add_coe]
    rw [hl, hr, EReal.neg_bot, EReal.top_mul_coe_of_pos hc]
  · push Not at hbot
    choose y hy using fun j b => (⟨(x j b).toReal, (EReal.coe_toReal (hx j b).ne (hbot j b)).symm⟩ : ∃ r : ℝ, x j b = (r : EReal))
    simp only [hy, ← EReal.coe_sub, ← coe_sum, ← EReal.coe_mul, ← EReal.coe_neg]
    congr 1
    rw [← Finset.sum_mul, Finset.sum_comm, ← neg_mul, ← Finset.sum_neg_distrib]
    congr 1
    refine Finset.sum_congr rfl fun b _ => ?_
    rw [Finset.sum_sub_distrib]; ring

end SelfLoss
-- ==== Proof.Scan.lean ====
/-
  The first greatest entry of a row, and the two ways it is found: the strided running maximum with its
  group number followed by the least candidate, and the fold of the greater (value, index) pair.
-/
module

public import Idealize.ShloMosaic.PureOps.Ideal.Laws
public import Idealize.ShloMosaic.Lib.WordCmp

@[expose] public section

namespace SelfLoss

open Idealize.ShloMosaic

/-- `p` is the first of the indices at which `f` is greatest. -/
structure First {n : ℕ} (f : Fin n → EReal) (p : Fin n) : Prop where
  le : ∀ q, f q ≤ f p
  lt : ∀ q, q < p → f q < f p

/-- The first greatest index is unique. -/
theorem First.unique {n : ℕ} {f : Fin n → EReal} {p q : Fin n} (hp : First f p) (hq : First f q) : p = q := by
  rcases lt_trichotomy p q with h | h | h
  · exact absurd (hq.lt p h) (not_lt.2 (hp.le q))
  · exact h
  · exact absurd (hp.lt q h) (not_lt.2 (hq.le p))

/-- A row with an entry has a first greatest index. -/
theorem exists_first {n : ℕ} (f : Fin (n + 1) → EReal) : ∃ p, First f p := by
  obtain ⟨m, -, hm⟩ := Finset.exists_max_image Finset.univ f ⟨0, Finset.mem_univ _⟩
  classical
  let S := Finset.univ.filter fun q => f q = f m
  have hS : S.Nonempty := ⟨m, by simp [S]⟩
  have hmem := S.min'_mem hS
  have he : f (S.min' hS) = f m := (Finset.mem_filter.1 hmem).2
  refine ⟨S.min' hS, fun q => he ▸ hm q (Finset.mem_univ _), fun q hq => ?_⟩
  rw [he]
  refine lt_of_le_of_ne (hm q (Finset.mem_univ _)) fun e => ?_
  exact absurd (S.min'_le q (Finset.mem_filter.2 ⟨Finset.mem_univ _, e⟩)) (not_le.2 hq)

/-- The running maximum of a sequence, and the place it was first reached. -/
noncomputable def runMax (f : ℕ → EReal) : ℕ → EReal × ℕ
  | 0 => (f 0, 0)
  | n + 1 => if (runMax f n).1 < f (n + 1) then (f (n + 1), n + 1) else runMax f n

/-- What the running maximum is after `n` steps. -/
theorem runMax_spec (f : ℕ → EReal) (n : ℕ) :
    (runMax f n).2 ≤ n ∧ f (runMax f n).2 = (runMax f n).1 ∧ (∀ k ≤ n, f k ≤ (runMax f n).1) ∧ ∀ k < (runMax f n).2, f k < (runMax f n).1 := by
  induction n with
  | zero => exact ⟨le_refl _, rfl, fun k hk => by rw [Nat.le_zero.1 hk]; exact le_refl _, fun k hk => absurd hk (Nat.not_lt_zero _)⟩
  | succ n ih =>
    obtain ⟨h1, h2, h3, h4⟩ := ih
    unfold runMax
    split
    · next h =>
      refine ⟨le_refl _, rfl, fun k hk => ?_, fun k hk => ?_⟩
      · rcases Nat.le_succ_iff.1 hk with hk | hk
        · exact (h3 k hk).trans h.le
        · rw [hk]
      · exact (h3 k (Nat.lt_succ_iff.1 hk)).trans_lt h
    · next h =>
      refine ⟨h1.trans (Nat.le_succ _), h2, fun k hk => ?_, h4⟩
      rcases Nat.le_succ_iff.1 hk with hk | hk
      · exact h3 k hk
      · rw [hk]; exact not_lt.1 h

/-- The least of a family of words, one of which is below all others and the starting word. -/
theorem fold_minsi {ι : Type} [DecidableEq ι] (s : Finset ι) (c : ι → BitVec 32) (init w : BitVec 32) (hi : w.toInt ≤ init.toInt)
    (h : ∀ q ∈ s, w.toInt ≤ (c q).toInt) :
    w.toInt ≤ (s.fold IntOp.minsi init c).toInt ∧ ((∃ q ∈ s, c q = w) → s.fold IntOp.minsi init c = w) := by
  induction s using Finset.induction_on with
  | empty => exact ⟨hi, fun ⟨q, hq, _⟩ => absurd hq (Finset.notMem_empty q)⟩
  | insert a s ha ih =>
    obtain ⟨i1, i2⟩ := ih fun q hq => h q (Finset.mem_insert_of_mem hq)
    have hw := h a (Finset.mem_insert_self a s)
    rw [Finset.fold_insert ha]
    have hmin : ∀ x y : BitVec 32, (x.toInt ≤ y.toInt → IntOp.minsi x y = x) ∧ (y.toInt ≤ x.toInt → IntOp.minsi x y = y) := by
      intro x y
      unfold IntOp.minsi
      constructor
      · intro hxy
        split
        · rfl
        · next hn => simp [BitVec.sle, BitVec.slt] at hn; exact BitVec.eq_of_toInt_eq (by omega)
      · intro hxy
        split
        · next hn => simp [BitVec.sle, BitVec.slt] at hn; exact BitVec.eq_of_toInt_eq (by omega)
        · rfl
    constructor
    · rcases le_total (c a).toInt (s.fold IntOp.minsi init c).toInt with hl | hl
      · rw [(hmin _ _).1 hl]; exact hw
      · rw [(hmin _ _).2 hl]; exact i1
    · rintro ⟨q, hq, e⟩
      rcases Finset.mem_insert.1 hq with rfl | hq
      · rw [e]; exact (hmin _ _).1 i1
      · rw [i2 ⟨q, hq, e⟩]; exact (hmin _ _).2 hw

/-- The strided search: of the rows `x (8 * k + s)`, `k < K`, each sublane `s` keeps its running maximum and
    group; the least label among the sublanes that reach the overall maximum is the first greatest index. -/
theorem strided {K : ℕ} (x : Fin (8 * K + 8) → EReal) (f : Fin 8 → ℕ → EReal)
    (hf : ∀ (s : Fin 8) (k : ℕ) (hk : k ≤ K), f s k = x ⟨8 * k + s.val, by omega⟩) {p : Fin (8 * K + 8)} (hp : First x p) :
    (∀ s, (runMax (f s) K).1 ≤ x p)
      ∧ (∀ s, (runMax (f s) K).1 = x p → p.val ≤ 8 * (runMax (f s) K).2 + s.val)
      ∧ ∃ s : Fin 8, (runMax (f s) K).1 = x p ∧ 8 * (runMax (f s) K).2 + s.val = p.val := by
  have key : ∀ s, ∃ q : Fin (8 * K + 8), q.val = 8 * (runMax (f s) K).2 + s.val ∧ (runMax (f s) K).1 = x q := fun s => by
    obtain ⟨h1, h2, -, -⟩ := runMax_spec (f s) K
    exact ⟨⟨8 * (runMax (f s) K).2 + s.val, by omega⟩, rfl, by rw [← h2, hf s _ h1]⟩
  refine ⟨fun s => ?_, fun s e => ?_, ?_⟩
  · obtain ⟨q, -, e⟩ := key s
    rw [e]; exact hp.le q
  · obtain ⟨q, hq, e'⟩ := key s
    rw [← hq]
    by_contra hlt
    exact absurd (hp.lt q (Fin.lt_def.2 (not_le.1 hlt))) (by rw [← e', e]; exact lt_irrefl _)
  · let s : Fin 8 := ⟨p.val % 8, Nat.mod_lt _ (by omega)⟩
    have hk : p.val / 8 ≤ K := by have := p.isLt; omega
    have hx : f s (p.val / 8) = x p := by
      rw [hf s _ hk]; congr 1; apply Fin.ext; show 8 * (p.val / 8) + p.val % 8 = p.val; omega
    obtain ⟨h1, h2, h3, h4⟩ := runMax_spec (f s) K
    obtain ⟨q, hq, e⟩ := key s
    have hM : (runMax (f s) K).1 = x p := le_antisymm (e ▸ hp.le q) (hx ▸ h3 _ hk)
    refine ⟨s, hM, ?_⟩
    have hle : (runMax (f s) K).2 ≤ p.val / 8 := by
      by_contra hlt
      exact absurd (h4 _ (not_le.1 hlt)) (by rw [hx, hM]; exact lt_irrefl _)
    have hge : p.val ≤ q.val := by
      by_contra hlt
      exact absurd (hp.lt q (Fin.lt_def.2 (not_le.1 hlt))) (by rw [← e, hM]; exact lt_irrefl _)
    have hs : s.val = p.val % 8 := rfl
    omega

end SelfLoss
-- ==== Proof.Vote.lean ====
/-
  One row's vote on words, and the regrouping of sums: what the kernel's lanes and the reference's rows
  both compute.
-/
module

public import proofs.«01_k».proof.Proof.Algebra
public import proofs.«01_k».proof.Proof.Scan

@[expose] public section

namespace SelfLoss

open Idealize.ShloMosaic

/-- A sum over `m * n` entries is the sum over `m` groups of `n`. -/
theorem sum_split {M : Type} [AddCommMonoid M] {m n N : ℕ} (h : N = m * n) (f : Fin N → M) :
    ∑ l, f l = ∑ i : Fin m, ∑ s : Fin n, f ⟨n * i.val + s.val, by
      have h1 := i.isLt; have h2 := s.isLt
      have : n * (i.val + 1) ≤ n * m := Nat.mul_le_mul_left n h1
      rw [h, Nat.mul_comm m n]; rw [Nat.mul_add] at this; omega⟩ := by
  subst h
  rw [← finProdFinEquiv.sum_comp, Fintype.sum_prod_type]
  refine Finset.sum_congr rfl fun i _ => Finset.sum_congr rfl fun s _ => congrArg f (Fin.ext ?_)
  rw [finProdFinEquiv_apply_val, Nat.add_comm]

/-- The constants' values: zero, minus infinity, plus infinity and the batch's size. -/
theorem bits_zero : Ideal.ofBits .f32 0x00000000#32 = 0 := by simp [Ideal.ofBits, Ideal.ieee]

/-- The constant of negative infinity is `⊥`. -/
theorem bits_bot : Ideal.ofBits .f32 0xFF800000#32 = ⊥ := by simp [Ideal.ofBits, Ideal.ieee]

/-- The constant of positive infinity is `⊤`. -/
theorem bits_top : Ideal.ofBits .f32 0x7F800000#32 = ⊤ := by simp [Ideal.ofBits, Ideal.ieee]

/-- The constant 32768, the batch. -/
theorem bits_batch : Ideal.ofBits .f32 0x47000000#32 = ((32768 : ℝ) : EReal) := by simp [Ideal.ofBits, Ideal.ieee, -EReal.coe_mul]; norm_num

/-- A small number as a signed word. -/
theorem toInt_ofNat {n : ℕ} (h : n < 2147483648) : (BitVec.ofNat 32 n).toInt = n := by
  rw [BitVec.toInt_eq_toNat_cond, BitVec.toNat_ofNat, Nat.mod_eq_of_lt (by omega), if_pos (by omega)]

/-- One where two words agree, zero elsewhere. -/
def ind (a b : BitVec 32) : BitVec 32 := (IntOp.cmpi .eq a b).setWidth 32

/-- One step of the vote: the count `c` of label `l` against the best count and label so far. -/
def voteW (c l : BitVec 32) (s : BitVec 32 × BitVec 32) : BitVec 32 × BitVec 32 :=
  (Scalar.select (IntOp.cmpi .sgt c s.1) c s.1, Scalar.select (IntOp.cmpi .sgt c s.1) l s.2)

/-- The voted label of one row. -/
def bestW (l : Fin 5 → BitVec 32) : BitVec 32 :=
  (voteW (IntOp.addi (IntOp.addi (IntOp.addi (IntOp.addi 1#32 (ind (l 0) (l 4))) (ind (l 1) (l 4))) (ind (l 2) (l 4))) (ind (l 3) (l 4))) (l 4)
  (voteW (IntOp.addi (IntOp.addi (IntOp.addi 1#32 (ind (l 0) (l 3))) (ind (l 1) (l 3))) (ind (l 2) (l 3))) (l 3)
  (voteW (IntOp.addi (IntOp.addi 1#32 (ind (l 0) (l 2))) (ind (l 1) (l 2))) (l 2)
  (voteW (IntOp.addi 1#32 (ind (l 0) (l 1))) (l 1)
  (voteW 1#32 (l 0) (0#32, 0#32)))))).2

/-- A step of the vote keeps a property its label and the best label have. -/
theorem voteW_mem {P : BitVec 32 → Prop} (c l : BitVec 32) (s : BitVec 32 × BitVec 32) (hl : P l) (hs : P s.2) : P (voteW c l s).2 := by
  unfold voteW Scalar.select
  dsimp only
  split
  · exact hl
  · exact hs

/-- The voted label is one of the five, or zero. -/
theorem bestW_mem {P : BitVec 32 → Prop} (l : Fin 5 → BitVec 32) (hl : ∀ j, P (l j)) (h0 : P 0#32) : P (bestW l) :=
  voteW_mem _ _ _ (hl 4) (voteW_mem _ _ _ (hl 3) (voteW_mem _ _ _ (hl 2) (voteW_mem _ _ _ (hl 1) (voteW_mem _ _ _ (hl 0) h0))))

/-- The voted label as an index. -/
def bestP (p : Fin 5 → Fin 1000) : Fin 1000 := ⟨(bestW fun j => BitVec.ofNat 32 (p j).val).toNat % 1000, Nat.mod_lt _ (by omega)⟩

/-- The voted label is that index. -/
theorem bestW_eq (p : Fin 5 → Fin 1000) : (bestW fun j => BitVec.ofNat 32 (p j).val) = BitVec.ofNat 32 (bestP p).val := by
  obtain ⟨q, hq, e⟩ : ∃ q < 1000, (bestW fun j => BitVec.ofNat 32 (p j).val) = BitVec.ofNat 32 q :=
    bestW_mem (P := fun w => ∃ q < 1000, w = BitVec.ofNat 32 q) _ (fun j => ⟨(p j).val, (p j).isLt, rfl⟩) ⟨0, by omega, rfl⟩
  show _ = BitVec.ofNat 32 ((bestW fun j => BitVec.ofNat 32 (p j).val).toNat % 1000)
  rw [e, BitVec.toNat_ofNat, Nat.mod_eq_of_lt (show q < 2 ^ 32 by omega), Nat.mod_eq_of_lt hq]

end SelfLoss
-- ==== Proof.Bound.lean ====
/-
  What the precondition says: every logit lies below `⊤`, and every row of logits has one above `⊥`.
-/
module

public import proofs.«01_k».proof.Pre_rows_bounded
public import proofs.«01_k».proof.Proof.Vote
public import Idealize.ShloMosaic.PureOps.Ideal
public import Idealize.ShloMosaic.Lib.Pointwise

@[expose] public section

set_option maxRecDepth 16384

noncomputable section

namespace SelfLoss.Bound

open Cert.Pre_rows_bounded Cert.Pre_rows_bounded.Facts
open Idealize.ShloMosaic

/-- The shape relations the precondition takes. -/
theorem facts : Facts := ⟨by decide, by decide, by decide, by decide, by decide, by decide⟩

/-- One entry of the precondition, over any row maxima. -/
theorem cell [Facts] (x : FVec Ideal S5x32768x1000 .f32) (z : FVec Ideal S5x32768 .f32) (j : Fin 5) (b : Fin 32768) (l : Fin 1000) :
    andi (cmpf .olt x (broadcastInDim S5x32768x1000 ![] bcast_S_S5x32768x1000 (constant S_ .f32 0x7F800000#32)))
      (broadcastInDim S5x32768x1000 ![0, 1, 2] bcast_S5x32768x1_S5x32768x1000_0_1_2
        (cmpf .ogt (broadcastInDim S5x32768x1 ![0, 1] bcast_S5x32768_S5x32768x1_0_1 z)
          (broadcastInDim S5x32768x1 ![] bcast_S_S5x32768x1 (constant S_ .f32 0xFF800000#32)))) (ix3 j b l)
      = IntOp.andi (Ideal.cmp .olt (x (ix3 j b l)) (Ideal.ofBits .f32 0x7F800000#32)) (Ideal.cmp .ogt (z (ix2 j b)) (Ideal.ofBits .f32 0xFF800000#32)) := by
  pointwise

/-- A row's maximum is the fold of its entries. -/
theorem max_apply [Facts] (x : FVec Ideal S5x32768x1000 .f32) (j : Fin 5) (b : Fin 32768) :
    Host.reduce FloatOps.maximumf x (constant S_ .f32 0xFF800000#32) reducesTo_S5x32768x1000_S5x32768_d2 h_S_ (ix2 j b)
      = Finset.fold max (Ideal.ofBits .f32 0xFF800000#32) (fun l : Fin 1000 => x (ix3 j b l)) Finset.univ := by
  pointwise

/-- Two bits are both set when their conjunction is. -/
theorem and_one (u v : BitVec 1) (h : IntOp.andi u v = 1#1) : u = 1#1 ∧ v = 1#1 := by
  revert u v; decide

/-- Under the precondition every row is below `⊤` with an entry above `⊥`. -/
theorem rows [Facts] (x : FVec Ideal S5x32768x1000 .f32) (h : fn (F := Ideal) x = fun _ => 1#1) (j : Fin 5) (b : Fin 32768) :
    Row fun l : Fin 1000 => x (ix3 j b l) := by
  have hc (l : Fin 1000) := and_one _ _ ((cell x _ j b l).symm.trans (congrFun h (ix3 j b l)))
  refine ⟨fun l => ?_, ?_⟩
  · have := (hc l).1
    rw [bits_top] at this
    by_contra hn
    simp [Ideal.cmp, hn] at this
  · have := (hc 0).2
    beta_reduce at this
    rw [max_apply, bits_bot] at this
    by_contra hn
    rw [not_exists] at hn
    have hm : ¬ (⊥ : EReal) < Finset.fold max ⊥ (fun l : Fin 1000 => x (ix3 j b l)) Finset.univ := by
      rw [Finset.lt_fold_max]
      rintro (h' | ⟨l, -, h'⟩)
      · exact lt_irrefl _ h'
      · exact absurd h' (hn l)
    simp [Ideal.cmp, hm] at this

end SelfLoss.Bound

end
-- ==== Proof.Block.lean ====
/-
  One block of the kernel, restated over loops. The kernel's body is the loops over the 125 groups of
  eight sublanes written out; here each loop is a recursion over the group's number, and the block's
  result is one expression over the recursions' ends.
-/
module

public import proofs.«01_k».proof.Proof.Gen.KernelIdeal.Frame

@[expose] public section

namespace SelfLoss

open Idealize.ShloMosaic Cert.KernelIdeal Cert.KernelIdeal.Gen

variable {F : FTy → Type} [FloatOps F]

/-- The eight sublanes of group `n` of model `j` lie inside the block. -/
theorem inb_grp (j n : ℕ) : ∀ a, (![j % 5, 8 * (n % 125), 0] : Fin 3 → Nat) a + S1x8x1024.size a ≤ S5x1000x1024.size a := by
  intro a
  have := Nat.mod_lt j (show 0 < 5 by omega)
  have := Nat.mod_lt n (show 0 < 125 by omega)
  fin_cases a
  · show j % 5 + 1 ≤ 5; omega
  · show 8 * (n % 125) + 8 ≤ 1000; omega
  · show 0 + 1024 ≤ 1024; omega

/-- Group `n` of model `j`: eight of the labels, by the block's lanes. -/
def grp (x0 : Vec F S5x1000x1024 .f32) (j n : ℕ) : FVec F S8x1024 .f32 :=
  shapeCast S8x1024 (View.ld x0 (Rect.unit (s := S5x1000x1024) ![j % 5, 8 * (n % 125), 0] S1x8x1024.size (inb_grp j n))) shapeCasts_S1x8x1024_S8x1024

/-- The exponentials added up over groups `0 … n`. -/
noncomputable def accTo (g : ℕ → FVec F S8x1024 .f32) : ℕ → FVec F S8x1024 .f32
  | 0 => exp (g 0)
  | n + 1 => addf (accTo g n) (exp (g (n + 1)))

/-- The greatest entry of each sublane over groups `0 … n`. -/
noncomputable def maxTo (g : ℕ → FVec F S8x1024 .f32) : ℕ → FVec F S8x1024 .f32
  | 0 => g 0
  | n + 1 => select (cmpf .ogt (g (n + 1)) (maxTo g n)) (g (n + 1)) (maxTo g n)

/-- The first label of the group that entry came from. -/
noncomputable def baseTo (g : ℕ → FVec F S8x1024 .f32) : ℕ → IVec S8x1024 32
  | 0 => broadcast S8x1024 0#32
  | n + 1 => select (cmpf .ogt (g (n + 1)) (maxTo g n)) (broadcast S8x1024 (BitVec.ofNat 32 (8 * (n + 1)))) (baseTo g n)

/-- The sublane's number. -/
def sub : IVec S8x1024 32 := iota .tc S8x1024 32 [0] iota_S8x1024_d0_w32

/-- The label of each lane from the sublanes' maxima `a` and their groups `b`. -/
noncomputable def labOf (a : FVec F S8x1024 .f32) (b : IVec S8x1024 32) : IVec S1024 32 :=
  multiReductionI .minsi [0] S1024
    (select (cmpf .oeq a (broadcastTo S8x1024
        (shapeCast S1x1024 (multiReduction .maximumf [0] S1024 a 0xFF800000#32 reduces_S8x1024_S1024 (.inl rfl) rfl) shapeCasts_S1024_S1x1024)
        broadcasts_S1x1024_S8x1024))
      (addi b sub) (broadcast S8x1024 1000#32))
    2147483647#32 reduces_S8x1024_S1024 rfl

/-- Model `j`'s label on each lane. -/
noncomputable def lab (x0 : Vec F S5x1000x1024 .f32) (j : ℕ) : IVec S1x1024 32 :=
  shapeCast S1x1024 (labOf (maxTo (grp x0 j) 124) (baseTo (grp x0 j) 124)) shapeCasts_S1024_S1x1024

/-- The sum over the eight sublanes, by lane. -/
noncomputable def lanes (a : FVec F S8x1024 .f32) : FVec F S1x1024 .f32 :=
  shapeCast S1x1024 (multiReduction .add [0] S1024 a 0x00000000#32 reduces_S8x1024_S1024 (.inl rfl) rfl) shapeCasts_S1024_S1x1024

/-- Model `j`'s log-sum-exp on each lane. -/
noncomputable def blse (x0 : Vec F S5x1000x1024 .f32) (j : ℕ) : FVec F S1x1024 .f32 := log (lanes (accTo (grp x0 j) 124))

/-- One more vote counted where two models' labels agree. -/
def agree (c a b : IVec S1x1024 32) : IVec S1x1024 32 := addi c (extui 32 (cmpi .eq a b) natLt_1_32)

/-- One step of the vote: the count `c` of label `l` against the best count and label so far. -/
def vote (c l : IVec S1x1024 32) (s : IVec S1x1024 32 × IVec S1x1024 32) : IVec S1x1024 32 × IVec S1x1024 32 :=
  (select (cmpi .sgt c s.1) c s.1, select (cmpi .sgt c s.1) l s.2)

/-- The vote over the five models' labels: the best count, and the best label. -/
def votes (l : ℕ → IVec S1x1024 32) : IVec S1x1024 32 × IVec S1x1024 32 :=
  vote (agree (agree (agree (agree (broadcast S1x1024 1#32) (l 0) (l 4)) (l 1) (l 4)) (l 2) (l 4)) (l 3) (l 4)) (l 4)
  (vote (agree (agree (agree (broadcast S1x1024 1#32) (l 0) (l 3)) (l 1) (l 3)) (l 2) (l 3)) (l 3)
  (vote (agree (agree (broadcast S1x1024 1#32) (l 0) (l 2)) (l 1) (l 2)) (l 2)
  (vote (agree (broadcast S1x1024 1#32) (l 0) (l 1)) (l 1)
  (vote (broadcast S1x1024 1#32) (l 0) (broadcast S1x1024 0#32, broadcast S1x1024 0#32)))))

/-- The sublane's number less the voted label. -/
def dif (best : IVec S1x1024 32) : IVec S8x1024 32 := subi sub (broadcastTo S8x1024 best broadcasts_S1x1024_S8x1024)

/-- The picked entries added up: after `n` steps, of step `i < n` group `i / 5` of model `i % 5`. -/
noncomputable def pickTo (x0 : Vec F S5x1000x1024 .f32) (d : IVec S8x1024 32) : ℕ → FVec F S8x1024 .f32
  | 0 => broadcast S8x1024 (Scalar.ofBits .f32 0x00000000#32)
  | n + 1 => addf (pickTo x0 d n)
      (select (cmpi .eq d (broadcast S8x1024 (BitVec.ofNat 32 ((4294967296 - 8 * (n / 5)) % 4294967296)))) (grp x0 (n % 5) (n / 5))
        (broadcast S8x1024 (Scalar.ofBits .f32 0x00000000#32)))

/-- The block's log-sum-exps added up over the models. -/
noncomputable def lseSum (x0 : Vec F S5x1000x1024 .f32) : FVec F S1x1024 .f32 :=
  addf (addf (addf (addf (blse x0 0) (blse x0 1)) (blse x0 2)) (blse x0 3)) (blse x0 4)

/-- The block's picked entries added up. -/
noncomputable def pickSum (x0 : Vec F S5x1000x1024 .f32) : FVec F S1x1024 .f32 :=
  lanes (pickTo x0 (dif (votes (lab x0)).2) 625)

/-- The block's result. -/
noncomputable def blockOut (x0 : Vec F S5x1000x1024 .f32) : FVec F S1x1x1 .f32 :=
  k0_pay1 (shapeCast S1x1x1024 (subf (lseSum x0) (pickSum x0)) shapeCasts_S1x1024_S1x1x1024)

set_option maxRecDepth 1000000 in
set_option maxHeartbeats 40000000 in
/-- The five models' labels, as the body spells them. -/
theorem labs_eq (x0 : Vec F S5x1000x1024 .f32) :
    k0_pay2426 x0 = lab x0 0 ∧ k0_pay2451 x0 = lab x0 1 ∧ k0_pay2476 x0 = lab x0 2 ∧ k0_pay2501 x0 = lab x0 3 ∧ k0_pay2131 (k0_pay2526 x0) = lab x0 4 :=
  ⟨rfl, rfl, rfl, rfl, rfl⟩

/-- The vote, as the body spells it. -/
theorem votes_eq (l : ℕ → IVec S1x1024 32) (l4 : IVec S1024 32) (h : k0_pay2131 l4 = l 4) :
    k0_pay2149 sub (k0_pay2131 l4) (k0_pay2145 (l 0) (l 1) (l 2) (l 3)) (k0_pay2146 (l 0) (l 1) (l 2) (l 3)) (k0_pay2147 (l 0) (l 1) (l 2) l4) (k0_pay2148 (l 3) l4)
      = dif (votes l).2 := by
  unfold k0_pay2147 k0_pay2148
  rw [h]
  rfl

/-- The voted label's distance, as the body spells it. -/
theorem dif_eq (x0 : Vec F S5x1000x1024 .f32) : k0_pay2532 x0 = dif (votes (lab x0)).2 := by
  obtain ⟨h0, h1, h2, h3, h4⟩ := labs_eq x0
  unfold k0_pay2532 k0_pay2531 k0_pay2530 k0_pay2529 k0_pay2528 k0_pay2527
  rw [h0, h1, h2, h3]
  exact votes_eq (lab x0) _ h4

/-- The block's result, once its two sums are known. -/
theorem join_eq (x0 : Vec F S5x1000x1024 .f32) (a : FVec F S1x1024 .f32) (d : IVec S8x1024 32) (c : IVec S8x1024 1) (p : FVec F S8x1024 .f32) (g : Vec F S1x8x1024 .f32)
    (hd : d = dif (votes (lab x0)).2) (ha : a = lseSum x0)
    (hp : addf p (select c (shapeCast S8x1024 g shapeCasts_S1x8x1024_S8x1024) (broadcast S8x1024 (Scalar.ofBits .f32 0x00000000#32))) = pickTo x0 d 625) :
    k0_pay1 (k0_pay2400 a c p g) = blockOut x0 := by
  unfold k0_pay2400 blockOut pickSum
  dsimp only
  rw [hp, ha, hd]
  rfl

set_option maxRecDepth 1000000 in
set_option maxHeartbeats 40000000 in
/-- The body's output window holds the block's result: the body is the recursions above, written out. -/
theorem out_eq (x0 : Vec F S5x1000x1024 .f32) : out0_1 x0 = View.canon [⟨r0_625, blockOut x0⟩] := by
  unfold out0_1
  rw [join_eq x0 _ (k0_pay2532 x0) _ _ _ (dif_eq x0) ?_ ?_]
  · rfl
  · rfl

end SelfLoss
-- ==== Proof.Lane.lean ====
/-
  The kernel's block, lane by lane: each of its recursions is a sum or a search over one row of 1000 logits,
  and the block's result is the sum over its lanes of the row's log-sum-exps less its picked logits.
-/
module

public import proofs.«01_k».proof.Proof.Block
public import proofs.«01_k».proof.Proof.Vote
public import Idealize.ShloMosaic.Lib.Pointwise
public import Idealize.ShloMosaic.Lib.Pipeline.Value

@[expose] public section

set_option maxRecDepth 16384

noncomputable section

namespace SelfLoss

open Idealize.ShloMosaic Cert.KernelIdeal Cert.KernelIdeal.Gen

/-- Model `j`'s logits on lane `b` of a block. -/
def row (x0 : Vec Ideal S5x1000x1024 .f32) (j : Fin 5) (b : Fin 1024) : Fin 1000 → EReal := fun l => x0 (ix3 j l b)

/-- Group `n` of model `j` holds eight entries of each lane's row. -/
theorem grp_apply (x0 : Vec Ideal S5x1000x1024 .f32) (j n : ℕ) (s : Fin 8) (b : Fin 1024) (hj : j < 5) (hn : n < 125) :
    grp x0 j n (ix2 s b) = row x0 ⟨j, hj⟩ b ⟨8 * n + s.val, by have := s.isLt; omega⟩ := by
  have h (v : Vec Ideal S1x8x1024 .f32) : shapeCast S8x1024 v shapeCasts_S1x8x1024_S8x1024 (ix2 s b) = v (ix3 0 s b) := by pointwise
  refine (h _).trans ?_
  unfold View.ld row
  refine congrArg x0 (funext fun a => Fin.ext ?_)
  match a with
  | ⟨0, _⟩ => exact Nat.mod_eq_of_lt hj
  | ⟨1, _⟩ => exact (congrArg (8 * (n % 125) + ·) (Nat.one_mul _)).trans (by show 8 * (n % 125) + s.val = 8 * n + s.val; rw [Nat.mod_eq_of_lt hn])
  | ⟨2, _⟩ => exact (Nat.zero_add _).trans (Nat.one_mul _)

/-- The sum over the sublanes. -/
theorem lanes_apply (a : FVec Ideal S8x1024 .f32) (b : Fin 1024) : lanes a (ix2 0 b) = ∑ s : Fin 8, a (ix2 s b) := by
  pointwise [lanes]

/-- The accumulator is a sum over the groups. -/
theorem accTo_apply (g : ℕ → FVec Ideal S8x1024 .f32) (n : ℕ) (s : Fin 8) (b : Fin 1024) :
    accTo g n (ix2 s b) = ∑ i : Fin (n + 1), Ideal.exp (g i.val (ix2 s b)) := by
  induction n with
  | zero => rw [Fin.sum_univ_one]; rfl
  | succ n ih => rw [Fin.sum_univ_castSucc]; exact congrArg (· + Ideal.exp (g (n + 1) (ix2 s b))) ih

/-- A lane's log-sum-exp is its row's. -/
theorem blse_apply (x0 : Vec Ideal S5x1000x1024 .f32) (j : Fin 5) (b : Fin 1024) : blse x0 j.val (ix2 0 b) = lse (row x0 j b) := by
  refine congrArg Ideal.log ((lanes_apply _ b).trans ?_)
  rw [sum_split (m := 125) (n := 8) rfl, Finset.sum_comm]
  refine Finset.sum_congr rfl fun s _ => (accTo_apply _ _ s b).trans (Finset.sum_congr rfl fun i _ => ?_)
  rw [grp_apply x0 j.val i.val s b j.isLt i.isLt]

/-- The greatest entry and its group are the running maximum's. -/
theorem maxTo_apply (g : ℕ → FVec Ideal S8x1024 .f32) (n : ℕ) (s : Fin 8) (b : Fin 1024) :
    maxTo g n (ix2 s b) = (runMax (fun k => g k (ix2 s b)) n).1
      ∧ baseTo g n (ix2 s b) = BitVec.ofNat 32 (8 * (runMax (fun k => g k (ix2 s b)) n).2) := by
  induction n with
  | zero => exact ⟨rfl, rfl⟩
  | succ n ih =>
    obtain ⟨h1, h2⟩ := ih
    have e1 : maxTo g (n + 1) (ix2 s b) = if maxTo g n (ix2 s b) < g (n + 1) (ix2 s b) then g (n + 1) (ix2 s b) else maxTo g n (ix2 s b) := by
      pointwise [maxTo]
    have e2 : baseTo g (n + 1) (ix2 s b) = if maxTo g n (ix2 s b) < g (n + 1) (ix2 s b) then BitVec.ofNat 32 (8 * (n + 1)) else baseTo g n (ix2 s b) := by
      pointwise [baseTo]
    have r : runMax (fun k => g k (ix2 s b)) (n + 1) = if (runMax (fun k => g k (ix2 s b)) n).1 < g (n + 1) (ix2 s b) then (g (n + 1) (ix2 s b), n + 1)
        else runMax (fun k => g k (ix2 s b)) n := rfl
    rw [e1, e2, h1, h2, r]
    constructor <;> split <;> rfl

/-- A lane's label is its row's first greatest index. -/
theorem lab_apply (x0 : Vec Ideal S5x1000x1024 .f32) (j : Fin 5) (b : Fin 1024) {p : Fin 1000} (hp : First (row x0 j b) p) :
    lab x0 j.val (ix2 0 b) = BitVec.ofNat 32 p.val := by
  obtain ⟨s1, s2, s3⟩ := strided (K := 124) (row x0 j b) (fun s k => grp x0 j.val k (ix2 s b))
    (fun s k hk => grp_apply x0 j.val k s b j.isLt (by omega)) hp
  have hb : ∀ s : Fin 8, (runMax (fun k => grp x0 j.val k (ix2 s b)) 124).2 ≤ 124 := fun s => (runMax_spec _ 124).1
  have e : lab x0 j.val (ix2 0 b) = Finset.fold IntOp.minsi 2147483647#32 (fun s : Fin 8 =>
      if maxTo (grp x0 j.val) 124 (ix2 s b) = Finset.fold max (Ideal.ofBits FTy.f32 4286578688#32) (fun s : Fin 8 => maxTo (grp x0 j.val) 124 (ix2 s b)) Finset.univ
      then IntOp.addi (baseTo (grp x0 j.val) 124 (ix2 s b)) (BitVec.ofNat 32 s.val) else 1000#32) Finset.univ := by
    pointwise [lab, labOf, sub]
  have hbot : Ideal.ofBits FTy.f32 4286578688#32 = ⊥ := bits_bot
  have hmax : Finset.fold max (Ideal.ofBits FTy.f32 4286578688#32) (fun s : Fin 8 => maxTo (grp x0 j.val) 124 (ix2 s b)) Finset.univ = row x0 j b p := by
    rw [hbot]
    refine le_antisymm (Finset.fold_max_le _ |>.2 ⟨bot_le, fun s _ => ?_⟩) (Finset.le_fold_max _ |>.2 (.inr ?_))
    · rw [(maxTo_apply _ _ s b).1]; exact s1 s
    · obtain ⟨s, hs, -⟩ := s3
      exact ⟨s, Finset.mem_univ _, by rw [(maxTo_apply _ _ s b).1]; exact hs.ge⟩
  have hadd : ∀ s : Fin 8, IntOp.addi (baseTo (grp x0 j.val) 124 (ix2 s b)) (BitVec.ofNat 32 s.val)
      = BitVec.ofNat 32 (8 * (runMax (fun k => grp x0 j.val k (ix2 s b)) 124).2 + s.val) := fun s => by
    rw [(maxTo_apply _ _ s b).2]; exact (BitVec.ofNat_add ..).symm
  have hpl := p.isLt
  rw [e, hmax]
  refine (fold_minsi Finset.univ _ _ (BitVec.ofNat 32 p.val) ?_ ?_).2 ?_
  · rw [toInt_ofNat (by omega)]; show (p.val : ℤ) ≤ 2147483647; omega
  · intro s _
    rw [toInt_ofNat (by omega)]
    split
    · next h =>
      rw [(maxTo_apply _ _ s b).1] at h
      have := s2 s h
      have := hb s
      rw [hadd, toInt_ofNat (by omega)]; omega
    · show (p.val : ℤ) ≤ 1000; omega
  · obtain ⟨s, hs, he⟩ := s3
    refine ⟨s, Finset.mem_univ _, ?_⟩
    rw [if_pos (by rw [(maxTo_apply _ _ s b).1]; exact hs), hadd, he]

/-- A lane's vote is the vote of its labels. -/
theorem votes_apply (l : ℕ → IVec S1x1024 32) (b : Fin 1024) : (votes l).2 (ix2 0 b) = bestW fun j => l j.val (ix2 0 b) := rfl

/-- A sublane's number less the voted label. -/
theorem dif_apply (best : IVec S1x1024 32) (s : Fin 8) (b : Fin 1024) : dif best (ix2 s b) = IntOp.subi (BitVec.ofNat 32 s.val) (best (ix2 0 b)) := by
  pointwise [dif, sub]

/-- That difference is the negated first label of the sublane's group exactly at the voted label. -/
theorem at_label {s k p : ℕ} (hs : s < 8) (hk : k < 125) (hp : p < 1000) :
    (IntOp.subi (BitVec.ofNat 32 s) (BitVec.ofNat 32 p) = BitVec.ofNat 32 ((4294967296 - 8 * k) % 4294967296)) ↔ 8 * k + s = p := by
  unfold IntOp.subi
  rw [← BitVec.toNat_inj, BitVec.toNat_sub, BitVec.toNat_ofNat, BitVec.toNat_ofNat, BitVec.toNat_ofNat]
  omega

/-- One step of the pick. -/
theorem pickTo_step (x0 : Vec Ideal S5x1000x1024 .f32) (d : IVec S8x1024 32) (n : ℕ) (s : Fin 8) (b : Fin 1024) :
    pickTo x0 d (n + 1) (ix2 s b) = pickTo x0 d n (ix2 s b)
      + if d (ix2 s b) = BitVec.ofNat 32 ((4294967296 - 8 * (n / 5)) % 4294967296) then grp x0 (n % 5) (n / 5) (ix2 s b) else 0 := by
  have h : pickTo x0 d (n + 1) (ix2 s b) = pickTo x0 d n (ix2 s b)
      + Scalar.select (IntOp.cmpi .eq (d (ix2 s b)) (BitVec.ofNat 32 ((4294967296 - 8 * (n / 5)) % 4294967296))) (grp x0 (n % 5) (n / 5) (ix2 s b)) 0 := by
    pointwise [pickTo]
  rw [h, WordCmp.cmpi_eq_eq, WordCmp.select_decide]

/-- The picked entries are a sum over the steps. -/
theorem pickTo_apply (x0 : Vec Ideal S5x1000x1024 .f32) (d : IVec S8x1024 32) (n : ℕ) (s : Fin 8) (b : Fin 1024) :
    pickTo x0 d n (ix2 s b) = ∑ i : Fin n,
      if d (ix2 s b) = BitVec.ofNat 32 ((4294967296 - 8 * (i.val / 5)) % 4294967296) then grp x0 (i.val % 5) (i.val / 5) (ix2 s b) else 0 := by
  induction n with
  | zero =>
    rw [Fin.sum_univ_zero]
    exact bits_zero
  | succ n ih => rw [Fin.sum_univ_castSucc, pickTo_step, ih]; rfl

/-- A lane's picked entries are its rows' entries at the voted label. -/
theorem pick_apply (x0 : Vec Ideal S5x1000x1024 .f32) (best : IVec S1x1024 32) (b : Fin 1024) {p : Fin 1000} (hp : best (ix2 0 b) = BitVec.ofNat 32 p.val) :
    lanes (pickTo x0 (dif best) 625) (ix2 0 b) = ∑ j, row x0 j b p := by
  have hrow : ∑ j, row x0 j b p = ∑ l : Fin 1000, ∑ j, if l = p then row x0 j b l else 0 := by
    rw [Finset.sum_comm]
    refine Finset.sum_congr rfl fun j _ => ?_
    rw [Finset.sum_ite_eq' Finset.univ p, if_pos (Finset.mem_univ _)]
  rw [lanes_apply, hrow, sum_split (m := 125) (n := 8) rfl, Finset.sum_comm]
  refine Finset.sum_congr rfl fun s _ => ?_
  rw [pickTo_apply, sum_split (m := 125) (n := 5) rfl]
  refine Finset.sum_congr rfl fun k _ => Finset.sum_congr rfl fun j _ => ?_
  have hk := k.isLt
  have hj := j.isLt
  have hs := s.isLt
  have e1 : (5 * k.val + j.val) / 5 = k.val := by omega
  have e2 : (5 * k.val + j.val) % 5 = j.val := by omega
  rw [dif_apply, hp]
  show (if _ = BitVec.ofNat 32 ((4294967296 - 8 * ((5 * k.val + j.val) / 5)) % 4294967296) then grp x0 ((5 * k.val + j.val) % 5) ((5 * k.val + j.val) / 5) (ix2 s b) else 0) = _
  rw [e1, e2, grp_apply x0 j.val k.val s b hj hk]
  refine if_congr ((at_label hs hk p.isLt).trans ?_) rfl rfl
  exact ⟨fun h => Fin.ext h, fun h => congrArg Fin.val h⟩

/-- The block's result: over its lanes, the rows' log-sum-exps less their entries at the voted label. -/
theorem block_value (x0 : Vec Ideal S5x1000x1024 .f32) (p : Fin 5 → Fin 1024 → Fin 1000) (hp : ∀ j b, First (row x0 j b) (p j b)) :
    blockOut x0 (ix3 0 0 0) = ∑ b, (∑ j, lse (row x0 j b) - ∑ j, row x0 j b (bestP fun j => p j b)) := by
  have e : blockOut x0 (ix3 0 0 0) = ∑ z : Fin 1, ∑ b : Fin 1024, (lseSum x0 (ix2 0 b) - pickSum x0 (ix2 0 b)) := by
    pointwise [blockOut, k0_pay1]
  rw [e, Fin.sum_univ_one]
  refine Finset.sum_congr rfl fun b _ => ?_
  refine congrArg₂ (fun u v : EReal => u - v) ?_ ?_
  · rw [Fin.sum_univ_five]
    exact congrArg₂ (fun u v : EReal => u + v) (congrArg₂ (fun u v : EReal => u + v) (congrArg₂ (fun u v : EReal => u + v)
      (congrArg₂ (fun u v : EReal => u + v) (blse_apply x0 0 b) (blse_apply x0 1 b)) (blse_apply x0 2 b)) (blse_apply x0 3 b)) (blse_apply x0 4 b)
  · refine pick_apply x0 _ b ?_
    rw [votes_apply, ← bestW_eq]
    exact congrArg bestW (funext fun j => lab_apply x0 j b (hp j b))

end SelfLoss

end
-- ==== Proof.Array.lean ====
/-
  The kernel's run, read: each grid point leaves its block's loss, and the lines after the region add
  the 32 of them and divide by the batch.
-/
module

public import proofs.«01_k».proof.Proof.Lane
public import Idealize.ShloMosaic.Lib.StableHlo.RunRead

@[expose] public section

set_option maxRecDepth 16384

noncomputable section

namespace SelfLoss.Kern

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- Point `t` takes the `t`-th stretch of lanes. -/
theorem in_block : ∀ t : Fin cfg0.N, win0_0.index t (0 : Fin 3) = 0 ∧ win0_0.index t (1 : Fin 3) = 0 ∧ win0_0.index t (2 : Fin 3) = t.val :=
  (by decide +kernel : ∀ t : Fin grid0.N, _)

/-- Point `t` writes the `t`-th partial loss. -/
theorem out_block : ∀ t : Fin cfg0.N, win0_1.index t (0 : Fin 3) = t.val ∧ win0_1.index t (1 : Fin 3) = 0 ∧ win0_1.index t (2 : Fin 3) = 0 :=
  (by decide +kernel : ∀ t : Fin grid0.N, _)

/-- The partial losses, one a point. -/
def partials (c : Dev nD) : Vec Ideal S32x1x1 .f32 := fun i => blockOut (iblk m c 0 ⟨(i 0).val, lt_of_lt_of_eq (i 0).isLt N_0.symm⟩) (ix3 0 0 0)

/-- A block of one element has one index. -/
theorem one_index (j : S1x1x1.Idx) : j = ix3 0 0 0 := by
  funext a
  fin_cases a <;> exact Subsingleton.elim (α := Fin 1) _ _

/-- The body leaves the block's loss in its window. -/
theorem out_val (x0 : Vec Ideal S5x1000x1024 .f32) : out0_1 x0 = blockOut x0 := by
  rw [out_eq]
  exact View.canon_unit_zero (funext fun a => by fin_cases a <;> rfl) _ _

/-- The output window's element of point `t` sits at `t`. -/
theorem out_emb (t : Fin cfg0.N) (j : S1x1x1.Idx) : ((cfg0.win 1).blk t).view.emb j = ix3 ⟨t.val, lt_of_lt_of_eq t.isLt N_0⟩ 0 0 := by
  obtain ⟨e0, e1, e2⟩ := out_block t
  have h0 : (j 0).val < 1 := (j 0).isLt
  have h1 : (j 1).val < 1 := (j 1).isLt
  have h2 : (j 2).val < 1 := (j 2).isLt
  funext a; apply Fin.ext
  match a with
  | ⟨0, _⟩ => show win0_1.index t (0 : Fin 3) * 1 + 1 * (j 0).val = t.val; omega
  | ⟨1, _⟩ => show win0_1.index t (1 : Fin 3) * 1 + 1 * (j 1).val = 0; omega
  | ⟨2, _⟩ => show win0_1.index t (2 : Fin 3) * 1 + 1 * (j 2).val = 0; omega

/-- What a point writes back is its element of the partial losses. -/
theorem flushed_val (c : Dev nD) (t : Fin cfg0.N) :
    (dats m 0 c).flushed 1 t = ((cfg0.win 1).blk t).view.read (Elt Ideal) (partials m c) := by
  show (cfg0.win 1).cut (grid0.coords t) ((dats m 0 c).after 1 t) = _
  rw [after0_1, out_val]
  funext j
  show blockOut (iblk m c 0 t) j = partials m c (((cfg0.win 1).blk t).view.emb j)
  rw [out_emb, one_index j]
  rfl

/-- Every element of the partial losses is some point's. -/
theorem covered (i : S32x1x1.Idx) : ∃ t : Fin cfg0.N, (cfg0.win 1).flush t = true ∧ i ∈ ((cfg0.win 1).blk t).view.set := by
  refine ⟨⟨(i 0).val, lt_of_lt_of_eq (i 0).isLt N_0.symm⟩, flush0_1 _, ?_⟩
  have h := ((cfg0.win 1).blk ⟨(i 0).val, lt_of_lt_of_eq (i 0).isLt N_0.symm⟩).view.emb_mem_set (ix3 0 0 0 : S1x1x1.Idx)
  rw [out_emb] at h
  have e : i = ix3 (i 0) 0 0 := by
    funext a
    fin_cases a
    · rfl
    · exact Subsingleton.elim (α := Fin 1) _ _
    · exact Subsingleton.elim (α := Fin 1) _ _
  rw [e]
  exact h

/-- The result array after the region: the partial losses. -/
theorem arr_val (c : Dev nD) : (dats m 0 c).arrAt 1 cfg0.N = partials m c :=
  (dats m 0 c).arrAt_eq_of_cover 1 (partials m c) (fun t _ => flushed_val m c t) covered

/-- The loss the kernel returns, from its partial losses. -/
def lossFrom (y : Vec Ideal S32x1x1 .f32) : FVec Ideal S_ .f32 :=
  Host.divf (Host.reduceAdd y (constant S_ .f32 0x00000000#32) reducesTo_S32x1x1_S_d0_1_2 h_S_) (constant S_ .f32 0x47000000#32)

/-- The mean of the partial losses. -/
theorem lossFrom_apply (y : Vec Ideal S32x1x1 .f32) (i : S_.Idx) :
    lossFrom y i = Ideal.div (∑ t : Fin 32, y (ix3 t 0 0)) ((32768 : ℝ) : EReal) := by
  rw [← bits_batch]
  pointwise [lossFrom]
  simp only [Fin.sum_univ_one]

/-- The lines after the region, read. -/
theorem tail_val (c : Dev nD) : Pipeline.afterTail₀ cfgs (dats m) 0 (V0 m) [hostOps1] c main_v3 = lossFrom (partials m c) := by
  have e : Pipeline.withArrays (cfgs 0).spec c (V0 m c) (fun w => (dats m 0 c).arrAt w (cfgs 0).N) (Proc.devRef .tc main_v1) = partials m c :=
    (Pipeline.withArrays_arr (cfgs 0).spec winFacts0.arr_inj c (V0 m c) (fun w => (dats m 0 c).arrAt w (cfgs 0).N) 1).trans (arr_val m c)
  unfold Pipeline.afterTail₀
  rw [← e]
  generalize Pipeline.withArrays (cfgs 0).spec c (V0 m c) (fun w => (dats m 0 c).arrAt w (cfgs 0).N) = W
  simp only [List.flatten_cons, List.flatten_nil, List.append_nil, hostOps1]
  after_reads_simp
  rfl

/-- The region finds the argument with its last two axes exchanged. -/
theorem entry_val (c : Dev nD) : V m c main_v0 = transpose S5x1000x32768 [0, 2, 1] (m ((c : Thread nD τ).loc main_arg0)) transposes_S5x32768x1000_S5x1000x32768_0_2_1 := by
  unfold V V0
  simp only [List.flatten_cons, List.flatten_nil, List.append_nil, hostOps0]
  after_reads_simp

/-- A point's block holds its rows of the argument. -/
theorem block_apply (c : Dev nD) (t : Fin cfg0.N) (j : Fin 5) (l : Fin 1000) (b : Fin 1024) (b' : Fin 32768) (hb : b'.val = 1024 * t.val + b.val) :
    iblk m c 0 t (ix3 j l b) = m ((c : Thread nD τ).loc main_arg0) (ix3 j b' l) := by
  obtain ⟨e0, e1, e2⟩ := in_block t
  have h : ((cfg0.win 0).blk t).view.emb (ix3 j l b : S5x1000x1024.Idx) = ix3 j l b' := by
    funext a; apply Fin.ext
    match a with
    | ⟨0, _⟩ => show win0_0.index t (0 : Fin 3) * 5 + 1 * j.val = j.val; omega
    | ⟨1, _⟩ => show win0_0.index t (1 : Fin 3) * 1000 + 1 * l.val = l.val; omega
    | ⟨2, _⟩ => show win0_0.index t (2 : Fin 3) * 1024 + 1 * b.val = b'.val; omega
  show V m c main_v0 (((cfg0.win 0).blk t).view.emb (ix3 j l b : S5x1000x1024.Idx)) = _
  rw [h, entry_val]
  have e (x : Vec Ideal S5x32768x1000 .f32) : transpose S5x1000x32768 [0, 2, 1] x transposes_S5x32768x1000_S5x1000x32768_0_2_1 (ix3 j l b') = x (ix3 j b' l) := by
    pointwise
  exact e _

/-- The kernel's run: the loss of the partial losses, the argument unchanged. -/
theorem run : θ_run defs (onTc (τ := τ) (main (F := Ideal))) ⟨m, fun _ => 0, ρ⟩ fun r => ∀ c : Dev nD,
      r.2.mem ((c : Thread nD τ).loc main_v3) = lossFrom (partials m c)
      ∧ r.2.mem ((c : Thread nD τ).loc main_arg0) = m ((c : Thread nD τ).loc main_arg0) :=
  (θ_run defs _ _).mono (fun _ h c =>
    ⟨((h c).2 main_v3 (Pipeline.mem_restRefs_of main_v3 (by decide) (by decide))).trans (tail_val m c),
      ((h c).2 main_arg0 (Pipeline.mem_restRefs_of main_arg0 (by decide) (by decide))).trans (W_main_arg0 m (dats m) c)⟩)
    (run_main m ρ)

end SelfLoss.Kern

end
-- ==== Proof.RefRun.lean ====
/-
  The reference's run: its operations as one list, cut into the prelude (the labels), five votes and the
  tail (log-softmax, pick, means), each stretch's values stated once over any contents before it.
-/
module

public import proofs.«01_k».proof.Proof.Gen.ReferenceIdeal
public import Idealize.ShloMosaic.PureOps.Ideal
public import Idealize.ShloMosaic.Lib.StableHlo.RunHlo
public import Idealize.ShloMosaic.Lib.StableHlo.RunRead
public import Idealize.ShloMosaic.Lib.Quiescent

@[expose] public section

set_option maxRecDepth 100000

noncomputable section

namespace SelfLoss.Ref

open Cert.ReferenceIdeal Cert.ReferenceIdeal.Gen
open Idealize.ShloMosaic Idealize.ShloMosaic.TcCoe Idealize.ShloMosaic.StableHlo Idealize.SL.Sem

/-- A program followed by another is the first's operations followed by the second's. -/
theorem seq_then {nD : Nat} {τ : Topo} {sig : RefSig} {Val : EltTy → Type} {Λ : Labels} {p k : Prog (TpuEff nD τ sig Val Λ .tc) PUnit} {l₁ l₂ : List (HloOp τ sig Val)}
    (h₁ : IsSeq p l₁) (h₂ : IsSeq k l₂) : IsSeq (p >>= fun _ => k) (l₁ ++ l₂) := by
  unfold IsSeq at *
  rw [h₁, h₂, seq_append]

/-- A single operation. -/
theorem seq_one {nD : Nat} {τ : Topo} {sig : RefSig} {Val : EltTy → Type} {Λ : Labels} {op : HloOp τ sig Val} :
    IsSeq (nD := nD) (Λ := Λ) (hlo rfl op fun _ => .ret (⟨⟩ : PUnit)) [op] := rfl

/-- The operations of the argmax. -/
noncomputable def argmaxLine (a : TRef sig ⟨S5x32768x1000, .f32⟩) (φ : fn_argmax.Bufs) : {l // IsSeq (fn_argmax.body (F := Ideal) a φ) l} :=
  by
  apply Subtype.mk
  unfold fn_argmax.body
  hlo_seq

/-- The operation of a selection. -/
noncomputable def whereLine (a : TRef sig ⟨S32768, .i1⟩) (b c : TRef sig ⟨S32768, .i32⟩) (φ : fn_where.Bufs) : {l // IsSeq (fn_where.body (F := Ideal) a b c φ) l} :=
  by
  apply Subtype.mk
  unfold fn_where.body
  hlo_seq

/-- The operations of the log-softmax. -/
noncomputable def softLine (a : TRef sig ⟨S5x32768x1000, .f32⟩) (φ : fn_log_softmax.Bufs) : {l // IsSeq (fn_log_softmax.body (F := Ideal) a φ) l} :=
  by
  apply Subtype.mk
  unfold fn_log_softmax.body
  hlo_seq

/-- The operations of the pick along the labels. -/
noncomputable def takeLine (a : TRef sig ⟨S5x32768x1000, .f32⟩) (b : TRef sig ⟨S5x32768x1, .i32⟩) (φ : fn_take_along_axis.Bufs) :
    {l // IsSeq (fn_take_along_axis.body (F := Ideal) a b φ) l} :=
  by
  apply Subtype.mk
  unfold fn_take_along_axis.body
  hlo_seq

/-- The first window's operations. -/
noncomputable def line0 : {l // ∀ d, IsSeq (main_part0 (F := Ideal) d) l} :=
  by
    apply Subtype.mk
    intro d
    unfold main_part0
    repeat (first | apply IsSeq.cons | refine seq_then (whereLine _ _ _ _).2 ?_ | refine seq_then (argmaxLine _ _).2 ?_ | exact (whereLine _ _ _ _).2 | exact seq_one | exact IsSeq.nil)

/-- The second window's operations. -/
noncomputable def line1 : {l // ∀ d, IsSeq (main_part1 (F := Ideal) d) l} :=
  by
    apply Subtype.mk
    intro d
    unfold main_part1
    repeat (first | apply IsSeq.cons | refine seq_then (whereLine _ _ _ _).2 ?_ | exact (whereLine _ _ _ _).2 | exact seq_one | exact IsSeq.nil)

/-- The third window's operations. -/
noncomputable def line2 : {l // ∀ d, IsSeq (main_part2 (F := Ideal) d) l} :=
  by
    apply Subtype.mk
    intro d
    unfold main_part2
    repeat (first | apply IsSeq.cons | refine seq_then (whereLine _ _ _ _).2 ?_ | exact (whereLine _ _ _ _).2 | exact seq_one | exact IsSeq.nil)

/-- The fourth window's operations. -/
noncomputable def line3 : {l // ∀ d, IsSeq (main_part3 (F := Ideal) d) l} :=
  by
    apply Subtype.mk
    intro d
    unfold main_part3
    repeat (first | apply IsSeq.cons | refine seq_then (whereLine _ _ _ _).2 ?_ | refine seq_then (softLine _ _).2 ?_ | refine seq_then (takeLine _ _ _).2 ?_ | exact (whereLine _ _ _ _).2 | exact seq_one | exact IsSeq.nil)

/-- The reference's operations, in order. -/
noncomputable def ops : List (HloOp τ sig (Elt Ideal)) := line0.1 ++ (line1.1 ++ (line2.1 ++ line3.1))

/-- The reference is those operations. -/
theorem main_seq (d : Dev nD) : IsSeq (main (F := Ideal) d) ops := by
  unfold main ops
  exact seq_then (line0.2 d) (seq_then (line1.2 d) (seq_then (line2.2 d) (line3.2 d)))

/-- The operations from place `a` on, `n` of them. -/
def cut (a n : ℕ) : List (HloOp τ sig (Elt Ideal)) := (ops.drop a).take n

/-- The operations are the prelude's, the five votes' and the tail's. -/
theorem ops_cut : ops = cut 0 12 ++ (cut 12 43 ++ (cut 55 43 ++ (cut 98 43 ++ (cut 141 43 ++ (cut 184 43 ++ (cut 227 15 ++ (cut 242 2 ++ (cut 244 8 ++ (cut 252 14 ++ cut 266 9))))))))) := rfl

/-- Every operation determines its result. -/
theorem ops_fresh : ∀ op ∈ ops, op.fresh = ∅ := by
  intro _ h
  repeat (cases h with | head => rfl | tail _ h => ?_)
  exact nomatch h

/-- Every operation touches buffers of the core alone. -/
theorem ops_sub : ops.Forall fun op => op.bufs ⊆ tcRefs τ sig := by
  refine List.forall_iff_forall_mem.2 ?_
  intro _ h
  repeat (cases h with
    | head => with_reducible (first | exact unary_bufs_sub .. | exact nullary_bufs_sub .. | exact binary_bufs_sub .. | exact ternary_bufs_sub .. | exact reshape_bufs_sub .. | exact nary_bufs_sub .. | exact quaternary_bufs_sub ..)
    | tail _ h => ?_)
  exact nomatch h

/-- What a list and then another leave. -/
theorem after_then (l₁ l₂ : List (HloOp τ sig (Elt Ideal))) (V : Valuation τ sig (Elt Ideal)) : after (l₁ ++ l₂) V = after l₂ (after l₁ V) := by
  induction l₁ generalizing V with
  | nil => rfl
  | cons o l ih => exact ih _

/-- No buffer and no semaphore of the reference is scoped. -/
theorem scopedRefs_eq : (Finset.univ.filter fun b : Ref sig .tc => b.isScoped) = ∅ := by decide
/-- The reference holds no scoped counter. -/
theorem scopedSems_eq : (Finset.univ.filter fun sm : SemLoc sig => sm.isScoped .tc) = ∅ := by decide

/-! ## What the stretches compute -/

/-- The labels: each row's argmax. -/
def labels (x : FVec Ideal S5x32768x1000 .f32) : IVec S5x32768 32 := fun j =>
  (Host.argReduce reducer_argmax_f32_i32 x (iotaInDim S5x32768x1000 32 2) (constant S_ .f32 0xFF800000#32) (constantI S_ 32 0#32)
    reducesTo_S5x32768x1000_S5x32768_d2 h_S_ j).2

/-- Row `k` of the labels. -/
def labRow (k : ℕ) (h : S5x32768.Slices ![k, 0] S1x32768) (v : IVec S5x32768 32) : IVec S32768 32 :=
  shapeCast S32768 (extractStridedSlice S1x32768 ![k, 0] v h) shapeCasts_S1x32768_S32768

/-- The word `n` on every row. -/
def all (n : BitVec 32) : IVec S32768 32 := broadcastInDim S32768 ![] bcast_S_S32768 (constantI S_ 32 n)

/-- A negative word counted from the end of an axis of extent `n`. -/
def fromEnd (n : BitVec 32) (v : IVec S32768 32) : IVec S32768 32 := select (cmpi .slt v (all 0#32)) (addi v (all n)) v

/-- The pairs of a row and its label. -/
def pairs (rows lab : IVec S32768 32) : IVec S32768x2 32 :=
  concatenate S32768x2 1 [⟨S32768x1, broadcastInDim S32768x1 ![0] bcast_S32768_S32768x1_0 (fromEnd 32768#32 rows)⟩,
    ⟨S32768x1, broadcastInDim S32768x1 ![0] bcast_S32768_S32768x1_0 (fromEnd 1000#32 lab)⟩] concatenates_S32768x1_S32768x1_S32768x2_d1

/-- One added to the count of each row's label. -/
def tally (t : IVec S32768x1000 32) (rows lab : IVec S32768 32) : IVec S32768x1000 32 :=
  Host.scatter scatter_S32768x1000_S32768x2_S32768_n_01_01_1 IntOp.addi t (pairs rows lab) (all 1#32)

/-- The count of each row's label. -/
def count (t : IVec S32768x1000 32) (rows lab : IVec S32768 32) : IVec S32768 32 :=
  Host.gather gather_S32768x1000_S32768x2_S32768_n_01_n_n_01_1_11 t (pairs rows lab)

/-- What the votes carry: the counts of each row's labels, the best label and its count. -/
structure Poll where
  tab : IVec S32768x1000 32
  best : IVec S32768 32
  top : IVec S32768 32

/-- No vote yet. -/
def noVote : Poll := ⟨broadcastInDim S32768x1000 ![] bcast_S_S32768x1000 (constantI S_ 32 0#32), all 0#32, all 0#32⟩

/-- One vote. -/
def poll (rows lab : IVec S32768 32) (s : Poll) : Poll :=
  ⟨tally s.tab rows lab, select (cmpi .sgt (count (tally s.tab rows lab) rows lab) s.top) lab s.best,
    select (cmpi .sgt (count (tally s.tab rows lab) rows lab) s.top) (count (tally s.tab rows lab) rows lab) s.top⟩

/-- The logits less each row's maximum. -/
def shifted (x : FVec Ideal S5x32768x1000 .f32) : FVec Ideal S5x32768x1000 .f32 :=
  subf x (broadcastInDim S5x32768x1000 ![0, 1, 2] bcast_S5x32768x1_S5x32768x1000_0_1_2 (broadcastInDim S5x32768x1 ![0, 1] bcast_S5x32768_S5x32768x1_0_1
    (maximumf (broadcastInDim S5x32768 ![] bcast_S_S5x32768 (constant S_ .f32 0xFF800000#32))
      (Host.reduce FloatOps.maximumf x (constant S_ .f32 0xFF800000#32) reducesTo_S5x32768x1000_S5x32768_d2 h_S_))))

/-- The log-softmax. -/
def soft (x : FVec Ideal S5x32768x1000 .f32) : FVec Ideal S5x32768x1000 .f32 :=
  subf (shifted x) (broadcastInDim S5x32768x1000 ![0, 1, 2] bcast_S5x32768x1_S5x32768x1000_0_1_2 (Host.log (broadcastInDim S5x32768x1 ![0, 1] bcast_S5x32768_S5x32768x1_0_1
    (Host.reduceAdd (Host.exp (shifted x)) (constant S_ .f32 0x00000000#32) reducesTo_S5x32768x1000_S5x32768_d2 h_S_))))

/-- The voted labels as places along the last axis. -/
def places (v : IVec S5x32768x1 32) : IVec S5x32768x1x1 32 :=
  shapeCast S5x32768x1x1 (select (cmpi .slt v (broadcastInDim S5x32768x1 ![] bcast_S_S5x32768x1 (constantI S_ 32 0#32)))
    (addi v (broadcastInDim S5x32768x1 ![] bcast_S_S5x32768x1 (constantI S_ 32 1000#32))) v) shapeCasts_S5x32768x1_S5x32768x1x1

/-- Which places lie on the axis. -/
def onAxis (v : IVec S5x32768x1x1 32) : IVec S5x32768x1 1 :=
  Host.reduce IntOp.andi (andi (cmpi .sge v (broadcastInDim S5x32768x1x1 ![] bcast_S_S5x32768x1x1 (constantI S_ 32 0#32)))
    (cmpi .sle v (broadcastInDim S5x32768x1x1 ![0, 1, 2, 3] bcast_S1x1x1x1_S5x32768x1x1_0_1_2_3
      (broadcastInDim S1x1x1x1 ![3] bcast_S1_S1x1x1x1_3 (constantI S1 32 999#32))))) (constantI S_ 1 1#1) reducesTo_S5x32768x1x1_S5x32768x1_d3 h_S_

/-- The entries at the places. -/
def pickAt (y : FVec Ideal S5x32768x1000 .f32) (v : IVec S5x32768x1x1 32) : FVec Ideal S5x32768x1 .f32 :=
  select (onAxis v) (Host.gather gather_S5x32768x1000_S5x32768x1x1_S5x32768x1_n_2_01_01_2_3_111 y v)
    (broadcastInDim S5x32768x1 ![] bcast_S_S5x32768x1 (constant S_ .f32 0x7FC00000#32))

/-- The loss from the picked entries. -/
def lossOf (y : FVec Ideal S5x32768x1 .f32) : FVec Ideal S_ .f32 :=
  Host.negf (Host.reduceAdd (Host.divf (Host.reduceAdd (shapeCast S5x32768 y shapeCasts_S5x32768x1_S5x32768) (constant S_ .f32 0x00000000#32) reducesTo_S5x32768_S5_d1 h_S_)
    (broadcastInDim S5 ![] bcast_S_S5 (constant S_ .f32 0x47000000#32))) (constant S_ .f32 0x00000000#32) reducesTo_S5_S_d0 h_S_)

/-- The voted labels, the same for every model. -/
def spread (best : IVec S32768 32) : IVec S5x32768x1 32 :=
  broadcastInDim S5x32768x1 ![0, 1, 2] bcast_S1x32768x1_S5x32768x1_0_1_2 (broadcastInDim S1x32768x1 ![1] bcast_S32768_S1x32768x1_1 best)

/-! ## The stretches -/

/-- A column of words. -/
def col (v : IVec S32768 32) : IVec S32768x1 32 := broadcastInDim S32768x1 ![0] bcast_S32768_S32768x1_0 v

/-- One vote's table, its pairs read piece by piece. -/
theorem tally_eq (t : IVec S32768x1000 32) (rows lab : IVec S32768 32) {a b : IVec S32768x1 32} (ha : a = col (fromEnd 32768#32 rows)) (hb : b = col (fromEnd 1000#32 lab)) (h) :
    Host.scatter scatter_S32768x1000_S32768x2_S32768_n_01_01_1 IntOp.addi t (concatenate S32768x2 1 [⟨S32768x1, a⟩, ⟨S32768x1, b⟩] h) (all 1#32) = tally t rows lab := by
  subst ha hb; rfl

/-- One vote's count, its pairs read piece by piece. -/
theorem count_eq {t t' : IVec S32768x1000 32} (ht : t = t') (rows lab : IVec S32768 32) {a b : IVec S32768x1 32} (ha : a = col (fromEnd 32768#32 rows)) (hb : b = col (fromEnd 1000#32 lab)) (h) :
    Host.gather gather_S32768x1000_S32768x2_S32768_n_01_n_n_01_1_11 t (concatenate S32768x2 1 [⟨S32768x1, a⟩, ⟨S32768x1, b⟩] h) = count t' rows lab := by
  subst ht ha hb; rfl

/-- The best label over casts between equal types. -/
theorem best_eq {g g' w l z : IVec S32768 32} {h₁ : IVec S32768 1 = IVec S32768 1} {h₂ h₃ : IVec S32768 32 = IVec S32768 32} (h : g = g') : select (cast h₁ (cmpi .sgt g w)) (cast h₂ l) (cast h₃ z) = select (cmpi .sgt g' w) l z := by rw [h]; rfl

/-- The best count over casts between equal types. -/
theorem top_eq {g g' w z : IVec S32768 32} {h₁ : IVec S32768 1 = IVec S32768 1} {h₂ h₃ : IVec S32768 32 = IVec S32768 32} (h : g = g') : select (cast h₁ (cmpi .sgt g w)) (cast h₂ g) (cast h₃ z) = select (cmpi .sgt g' w) g' z := by rw [h]; rfl

/-- A cast between equal types drops. -/
theorem uncast {α : Sort*} {a b : α} {h : α = α} (e : a = b) : cast h a = b := e

/-- Polls agree when their parts do. -/
theorem mk_eq {a a' b b' c c'} (ha : a = a') (hb : b = b') (hc : c = c') : (⟨a, b, c⟩ : Poll) = ⟨a', b', c'⟩ := by subst ha hb hc; rfl

variable (W : Valuation τ sig (Elt Ideal))

/-- The prelude leaves the labels, the rows and no vote. -/
theorem prelude_eq : after (cut 0 12) W (main_v0 : DevRef τ sig) = labels (W (main_arg0 : DevRef τ sig))
    ∧ after (cut 0 12) W (main_v1 : DevRef τ sig) = iotaInDim S32768 32 0
    ∧ (⟨after (cut 0 12) W (main_v2 : DevRef τ sig), after (cut 0 12) W (main_v4 : DevRef τ sig), after (cut 0 12) W (main_v3 : DevRef τ sig)⟩ : Poll) = noVote
    ∧ after (cut 0 12) W (main_arg0 : DevRef τ sig) = W (main_arg0 : DevRef τ sig) := by
  unfold cut
  refine ⟨?_, ?_, ?_, ?_⟩ <;> after_reads_simp <;> rfl

/-- What a stretch keeps: the labels, the rows and the logits. -/
def Keeps (l : List (HloOp τ sig (Elt Ideal))) : Prop :=
  after l W (main_v0 : DevRef τ sig) = W (main_v0 : DevRef τ sig) ∧ after l W (main_v1 : DevRef τ sig) = W (main_v1 : DevRef τ sig)
    ∧ after l W (main_arg0 : DevRef τ sig) = W (main_arg0 : DevRef τ sig)

/-- The first vote. -/
theorem vote0 : (⟨after (cut 12 43) W (main_v21 : DevRef τ sig), after (cut 12 43) W (main_v37 : DevRef τ sig), after (cut 12 43) W (main_v38 : DevRef τ sig)⟩ : Poll)
      = poll (W (main_v1 : DevRef τ sig)) (labRow 0 slices_S5x32768_S1x32768_0_0 (W (main_v0 : DevRef τ sig)))
        ⟨W (main_v2 : DevRef τ sig), W (main_v4 : DevRef τ sig), W (main_v3 : DevRef τ sig)⟩ ∧ Keeps W (cut 12 43) := by
  unfold Keeps cut
  refine ⟨mk_eq ?_ ?_ ?_, ?_, ?_, ?_⟩ <;> after_reads_simp
  · refine tally_eq _ _ _ ?_ ?_ _ <;> after_reads_simp <;> rfl
  · refine uncast ((best_eq ?_).trans rfl)
    refine count_eq (tally_eq _ _ _ ?_ ?_ _) _ _ ?_ ?_ _ <;> after_reads_simp <;> rfl
  · refine uncast ((top_eq ?_).trans rfl)
    refine count_eq (tally_eq _ _ _ ?_ ?_ _) _ _ ?_ ?_ _ <;> after_reads_simp <;> rfl

/-- The second vote. -/
theorem vote1 : (⟨after (cut 55 43) W (main_v55 : DevRef τ sig), after (cut 55 43) W (main_v71 : DevRef τ sig), after (cut 55 43) W (main_v72 : DevRef τ sig)⟩ : Poll)
      = poll (W (main_v1 : DevRef τ sig)) (labRow 1 slices_S5x32768_S1x32768_1_0 (W (main_v0 : DevRef τ sig)))
        ⟨W (main_v21 : DevRef τ sig), W (main_v37 : DevRef τ sig), W (main_v38 : DevRef τ sig)⟩ ∧ Keeps W (cut 55 43) := by
  unfold Keeps cut
  refine ⟨mk_eq ?_ ?_ ?_, ?_, ?_, ?_⟩ <;> after_reads_simp
  · refine tally_eq _ _ _ ?_ ?_ _ <;> after_reads_simp <;> rfl
  · refine uncast ((best_eq ?_).trans rfl)
    refine count_eq (tally_eq _ _ _ ?_ ?_ _) _ _ ?_ ?_ _ <;> after_reads_simp <;> rfl
  · refine uncast ((top_eq ?_).trans rfl)
    refine count_eq (tally_eq _ _ _ ?_ ?_ _) _ _ ?_ ?_ _ <;> after_reads_simp <;> rfl

/-- The third vote. -/
theorem vote2 : (⟨after (cut 98 43) W (main_v89 : DevRef τ sig), after (cut 98 43) W (main_v105 : DevRef τ sig), after (cut 98 43) W (main_v106 : DevRef τ sig)⟩ : Poll)
      = poll (W (main_v1 : DevRef τ sig)) (labRow 2 slices_S5x32768_S1x32768_2_0 (W (main_v0 : DevRef τ sig)))
        ⟨W (main_v55 : DevRef τ sig), W (main_v71 : DevRef τ sig), W (main_v72 : DevRef τ sig)⟩ ∧ Keeps W (cut 98 43) := by
  unfold Keeps cut
  refine ⟨mk_eq ?_ ?_ ?_, ?_, ?_, ?_⟩ <;> after_reads_simp
  · refine tally_eq _ _ _ ?_ ?_ _ <;> after_reads_simp <;> rfl
  · refine uncast ((best_eq ?_).trans rfl)
    refine count_eq (tally_eq _ _ _ ?_ ?_ _) _ _ ?_ ?_ _ <;> after_reads_simp <;> rfl
  · refine uncast ((top_eq ?_).trans rfl)
    refine count_eq (tally_eq _ _ _ ?_ ?_ _) _ _ ?_ ?_ _ <;> after_reads_simp <;> rfl

/-- The fourth vote. -/
theorem vote3 : (⟨after (cut 141 43) W (main_v123 : DevRef τ sig), after (cut 141 43) W (main_v139 : DevRef τ sig), after (cut 141 43) W (main_v140 : DevRef τ sig)⟩ : Poll)
      = poll (W (main_v1 : DevRef τ sig)) (labRow 3 slices_S5x32768_S1x32768_3_0 (W (main_v0 : DevRef τ sig)))
        ⟨W (main_v89 : DevRef τ sig), W (main_v105 : DevRef τ sig), W (main_v106 : DevRef τ sig)⟩ ∧ Keeps W (cut 141 43) := by
  unfold Keeps cut
  refine ⟨mk_eq ?_ ?_ ?_, ?_, ?_, ?_⟩ <;> after_reads_simp
  · refine tally_eq _ _ _ ?_ ?_ _ <;> after_reads_simp <;> rfl
  · refine uncast ((best_eq ?_).trans rfl)
    refine count_eq (tally_eq _ _ _ ?_ ?_ _) _ _ ?_ ?_ _ <;> after_reads_simp <;> rfl
  · refine uncast ((top_eq ?_).trans rfl)
    refine count_eq (tally_eq _ _ _ ?_ ?_ _) _ _ ?_ ?_ _ <;> after_reads_simp <;> rfl

/-- The fifth vote. -/
theorem vote4 : (⟨after (cut 184 43) W (main_v157 : DevRef τ sig), after (cut 184 43) W (main_v173 : DevRef τ sig), after (cut 184 43) W (main_v174 : DevRef τ sig)⟩ : Poll)
      = poll (W (main_v1 : DevRef τ sig)) (labRow 4 slices_S5x32768_S1x32768_4_0 (W (main_v0 : DevRef τ sig)))
        ⟨W (main_v123 : DevRef τ sig), W (main_v139 : DevRef τ sig), W (main_v140 : DevRef τ sig)⟩ ∧ Keeps W (cut 184 43) := by
  unfold Keeps cut
  refine ⟨mk_eq ?_ ?_ ?_, ?_, ?_, ?_⟩ <;> after_reads_simp
  · refine tally_eq _ _ _ ?_ ?_ _ <;> after_reads_simp <;> rfl
  · refine uncast ((best_eq ?_).trans rfl)
    refine count_eq (tally_eq _ _ _ ?_ ?_ _) _ _ ?_ ?_ _ <;> after_reads_simp <;> rfl
  · refine uncast ((top_eq ?_).trans rfl)
    refine count_eq (tally_eq _ _ _ ?_ ?_ _) _ _ ?_ ?_ _ <;> after_reads_simp <;> rfl

/-- The tail's first stretch: the log-softmax. -/
theorem soft_eq : after (cut 227 15) W (main_v175 : DevRef τ sig) = soft (W (main_arg0 : DevRef τ sig))
    ∧ after (cut 227 15) W (main_v173 : DevRef τ sig) = W (main_v173 : DevRef τ sig) ∧ after (cut 227 15) W (main_arg0 : DevRef τ sig) = W (main_arg0 : DevRef τ sig) := by
  unfold cut
  refine ⟨?_, ?_, ?_⟩ <;> after_reads_simp
  simp only [TRef.ofBuf_toBuf]
  refine uncast ?_
  rfl

/-- The voted labels, spread over the models. -/
theorem spread_eq : after (cut 242 2) W (main_v177 : DevRef τ sig) = spread (W (main_v173 : DevRef τ sig))
    ∧ after (cut 242 2) W (main_v175 : DevRef τ sig) = W (main_v175 : DevRef τ sig) ∧ after (cut 242 2) W (main_arg0 : DevRef τ sig) = W (main_arg0 : DevRef τ sig) := by
  unfold cut
  refine ⟨?_, ?_, ?_⟩ <;> after_reads_simp
  rfl

/-- The voted labels as places. -/
theorem places_eq : after (cut 244 8) W (main_call12_v5 : DevRef τ sig) = places (W (main_v177 : DevRef τ sig))
    ∧ after (cut 244 8) W (main_v175 : DevRef τ sig) = W (main_v175 : DevRef τ sig) ∧ after (cut 244 8) W (main_arg0 : DevRef τ sig) = W (main_arg0 : DevRef τ sig) := by
  unfold cut
  refine ⟨?_, ?_, ?_⟩ <;> after_reads_simp
  simp only [TRef.ofBuf_toBuf]
  rfl

/-- The picked entries. -/
theorem pickAt_eq : after (cut 252 14) W (main_v178 : DevRef τ sig) = pickAt (W (main_v175 : DevRef τ sig)) (W (main_call12_v5 : DevRef τ sig))
    ∧ after (cut 252 14) W (main_arg0 : DevRef τ sig) = W (main_arg0 : DevRef τ sig) := by
  unfold cut
  refine ⟨?_, ?_⟩ <;> after_reads_simp
  simp only [TRef.ofBuf_toBuf]
  refine uncast ?_
  rfl

/-- The loss. -/
theorem loss_eq : after (cut 266 9) W (main_v184 : DevRef τ sig) = lossOf (W (main_v178 : DevRef τ sig))
    ∧ after (cut 266 9) W (main_arg0 : DevRef τ sig) = W (main_arg0 : DevRef τ sig) := by
  unfold cut
  refine ⟨?_, ?_⟩ <;> after_reads_simp
  rfl

/-- The voted labels of logits `x`. -/
def voted (x : FVec Ideal S5x32768x1000 .f32) : IVec S32768 32 :=
  let v := fun k h => labRow k h (labels x)
  let p := poll (iotaInDim S32768 32 0)
  (p (v 4 slices_S5x32768_S1x32768_4_0) (p (v 3 slices_S5x32768_S1x32768_3_0) (p (v 2 slices_S5x32768_S1x32768_2_0)
    (p (v 1 slices_S5x32768_S1x32768_1_0) (p (v 0 slices_S5x32768_S1x32768_0_0) noVote))))).best

/-- The loss of logits `x`. -/
def lossFn (x : FVec Ideal S5x32768x1000 .f32) : FVec Ideal S_ .f32 := lossOf (pickAt (soft x) (places (spread (voted x))))

/-- The whole list computes the loss and keeps the logits. -/
theorem ops_value : after ops W (main_v184 : DevRef τ sig) = lossFn (W (main_arg0 : DevRef τ sig))
    ∧ after ops W (main_arg0 : DevRef τ sig) = W (main_arg0 : DevRef τ sig) := by
  rw [ops_cut]
  simp only [after_then]
  generalize hA : after (cut 0 12) W = A
  generalize hB : after (cut 12 43) A = B
  generalize hC : after (cut 55 43) B = C
  generalize hD : after (cut 98 43) C = D
  generalize hE : after (cut 141 43) D = E
  generalize hF : after (cut 184 43) E = F
  generalize hG : after (cut 227 15) F = G
  generalize hH : after (cut 242 2) G = H
  generalize hI : after (cut 244 8) H = I
  generalize hJ : after (cut 252 14) I = J
  obtain ⟨a1, a2, a3, a4⟩ := prelude_eq W
  obtain ⟨b1, b2, b3, b4⟩ := vote0 A
  obtain ⟨c1, c2, c3, c4⟩ := vote1 B
  obtain ⟨d1, d2, d3, d4⟩ := vote2 C
  obtain ⟨e1, e2, e3, e4⟩ := vote3 D
  obtain ⟨f1, f2, f3, f4⟩ := vote4 E
  obtain ⟨g1, g2, g3⟩ := soft_eq F
  obtain ⟨h1, h2, h3⟩ := spread_eq G
  obtain ⟨i1, i2, i3⟩ := places_eq H
  obtain ⟨j1, j2⟩ := pickAt_eq I
  obtain ⟨k1, k2⟩ := loss_eq J
  rw [hA] at a1 a2 a3 a4
  rw [hB] at b1 b2 b3 b4
  rw [hC] at c1 c2 c3 c4
  rw [hD] at d1 d2 d3 d4
  rw [hE] at e1 e2 e3 e4
  rw [hF] at f1 f2 f3 f4
  rw [hG] at g1 g2 g3
  rw [hH] at h1 h2 h3
  rw [hI] at i1 i2 i3
  rw [hJ] at j1 j2
  have hw : F (main_v173 : DevRef τ sig) = voted (W (main_arg0 : DevRef τ sig)) := by
    refine (congrArg Poll.best f1).trans ?_
    rw [e1, d1, c1, b1, a3, e2, d2, c2, b2, a1, e3, d3, c3, b3, a2]
    rfl
  refine ⟨?_, ?_⟩
  · rw [k1, j1, i1, i2, h1, h2, g1, g2, hw, f4, e4, d4, c4, b4, a4]; rfl
  · rw [k2, j2, i3, h3, g3, f4, e4, d4, c4, b4, a4]

/-- From any memory the reference ends with the loss in its result, its argument as it was and no counter raised. -/
theorem run (m : (ℓ : Loc nD τ sig) → Buf (Elt Ideal) ℓ) (g : Dev nD → PrngReg) :
    θ_run (defs (F := Ideal)) (onTc (τ := τ) (main (F := Ideal))) ⟨m, fun _ => 0, g⟩ (fun r =>
      (∀ c : Dev nD, r.2.mem ((c.tc : Thread nD τ).loc main_v184) = lossFn (m ((c.tc : Thread nD τ).loc main_arg0))
        ∧ r.2.mem ((c.tc : Thread nD τ).loc main_arg0) = m ((c.tc : Thread nD τ).loc main_arg0)) ∧ r.2.sem = fun _ => 0) := by
  refine (θ_run defs _ _).mono (fun r h => ⟨fun c => ⟨?_, ?_⟩, sem_eq_zero_of_no_sems (by decide) r.2⟩)
    (run_hlo defs main main_seq scopedRefs_eq scopedSems_eq ops_sub ops_fresh m g)
  · exact (h c main_v184).trans (ops_value _).1
  · exact (h c main_arg0).trans (ops_value _).2

end SelfLoss.Ref

end
-- ==== Proof.RefVal.lean ====
/-
  The reference's values: the labels are the rows' first greatest indices, the votes count through the table
  exactly the agreeing models, and the loss is the negated sum of the means of the picked log-probabilities.
-/
module

public import proofs.«01_k».proof.Proof.RefRun
public import proofs.«01_k».proof.Proof.Vote
public import Idealize.ShloMosaic.Lib.Pointwise
public import Idealize.ShloMosaic.Lib.Routing.OpsPair

@[expose] public section

set_option maxRecDepth 16384

noncomputable section

namespace SelfLoss.Ref

open Cert.ReferenceIdeal Cert.ReferenceIdeal.Gen
open Idealize.ShloMosaic

/-- The logits of model `j` on row `b`. -/
def rowOf (x : FVec Ideal S5x32768x1000 .f32) (j : Fin 5) (b : Fin 32768) : Fin 1000 → EReal := fun l => x (ix3 j b l)

/-! ## The labels -/

/-- The pairs the argmax folds over are a row's entries with their indices. -/
theorem fiber_mem (x : FVec Ideal S5x32768x1000 .f32) (j : Fin 5) (b : Fin 32768) (a : EReal × BitVec 32) :
    a ∈ Host.argReduceFiber x (iotaInDim S5x32768x1000 32 2) reducesTo_S5x32768x1000_S5x32768_d2 (ix2 j b) ↔ ∃ l : Fin 1000, a = (x (ix3 j b l), BitVec.ofNat 32 l.val) := by
  have hd (k : S5x32768x1000.Idx) : reducesTo_S5x32768x1000_S5x32768_d2.drop k = ix2 (k 0) (k 1) := by
    funext q; fin_cases q <;> rfl
  have hk (k : S5x32768x1000.Idx) : k = ix3 (k 0) (k 1) (k 2) := by
    funext q; fin_cases q <;> rfl
  unfold Host.argReduceFiber
  rw [List.mem_map]
  constructor
  · rintro ⟨n, hn, rfl⟩
    have h := of_decide_eq_true (List.mem_filter.1 hn).2
    rw [hd] at h
    have h0 : S5x32768x1000.rowMajor.symm n 0 = j := congrFun h 0
    have h1 : S5x32768x1000.rowMajor.symm n 1 = b := congrFun h 1
    refine ⟨S5x32768x1000.rowMajor.symm n 2, ?_⟩
    subst h0 h1
    exact congrArg (fun k => (x k, iotaInDim S5x32768x1000 32 2 (S5x32768x1000.rowMajor.symm n))) (hk _)
  · rintro ⟨l, rfl⟩
    refine ⟨S5x32768x1000.rowMajor (ix3 j b l), List.mem_filter.2 ⟨List.mem_finRange _, decide_eq_true ?_⟩, ?_⟩
    · rw [Equiv.symm_apply_apply, hd]; rfl
    · rw [Equiv.symm_apply_apply]; rfl

/-- One step of the argmax keeps the greater value, and of equal values the lesser index. -/
theorem argmax_step (a b : EReal × BitVec 32) : reducer_argmax_f32_i32 (F := Ideal) a b = if b.1 < a.1 ∨ (a.1 = b.1 ∧ a.2.toInt < b.2.toInt) then a else b := by
  obtain ⟨a1, a2⟩ := a
  obtain ⟨b1, b2⟩ := b
  have e : reducer_argmax_f32_i32 (F := Ideal) (a1, a2) (b1, b2)
      = (Scalar.select (IntOp.ori (BitVec.ofBool (decide (b1 < a1))) (BitVec.ofBool (decide (a1 ≠ a1)))) a1 b1,
         Scalar.select (IntOp.ori (IntOp.ori (BitVec.ofBool (decide (b1 < a1))) (BitVec.ofBool (decide (a1 ≠ a1))))
          (IntOp.andi (BitVec.ofBool (decide (a1 = b1))) (BitVec.ofBool (decide (a2.toInt < b2.toInt))))) a2 b2) := rfl
  rw [e, WordCmp.ori_ofBool, WordCmp.andi_ofBool, WordCmp.ori_ofBool]
  unfold Scalar.select
  by_cases h1 : b1 < a1
  · simp [h1]
  · by_cases h2 : a1 = b1
    · by_cases h3 : a2.toInt < b2.toInt
      · simp [h2, h3]
      · simp [h2, h3]
    · simp [h1, h2]

/-- The fold of such steps ends with one of the pairs, and none has a greater value or an equal one with a lesser index. -/
theorem argmax_fold (L : List (EReal × BitVec 32)) (i : EReal × BitVec 32) :
    L.foldl (reducer_argmax_f32_i32 (F := Ideal)) i ∈ i :: L ∧ ∀ a ∈ i :: L, a.1 < (L.foldl (reducer_argmax_f32_i32 (F := Ideal)) i).1
      ∨ (a.1 = (L.foldl (reducer_argmax_f32_i32 (F := Ideal)) i).1 ∧ (L.foldl (reducer_argmax_f32_i32 (F := Ideal)) i).2.toInt ≤ a.2.toInt) := by
  induction L generalizing i with
  | nil => exact ⟨List.mem_singleton.2 rfl, fun a ha => .inr (by rw [List.mem_singleton.1 ha]; exact ⟨rfl, le_refl _⟩)⟩
  | cons b L ih =>
    rw [List.foldl_cons]
    obtain ⟨h1, h2⟩ := ih (reducer_argmax_f32_i32 (F := Ideal) i b)
    have hs := argmax_step i b
    generalize reducer_argmax_f32_i32 (F := Ideal) i b = w at *
    generalize L.foldl (reducer_argmax_f32_i32 (F := Ideal)) w = r at *
    have hh := h2 w List.mem_cons_self
    have hL : ∀ a ∈ L, a.1 < r.1 ∨ (a.1 = r.1 ∧ r.2.toInt ≤ a.2.toInt) := fun a ha => h2 a (List.mem_cons_of_mem _ ha)
    have hw : (w = i ∨ w = b) ∧ (i.1 < w.1 ∨ (i.1 = w.1 ∧ w.2.toInt ≤ i.2.toInt)) ∧ (b.1 < w.1 ∨ (b.1 = w.1 ∧ w.2.toInt ≤ b.2.toInt)) := by
      by_cases hc : b.1 < i.1 ∨ (i.1 = b.1 ∧ i.2.toInt < b.2.toInt)
      · rw [hs, if_pos hc]
        exact ⟨.inl rfl, .inr ⟨rfl, le_refl _⟩, hc.imp id fun h => ⟨h.1.symm, h.2.le⟩⟩
      · rw [hs, if_neg hc]
        refine ⟨.inr rfl, ?_, .inr ⟨rfl, le_refl _⟩⟩
        rcases lt_trichotomy i.1 b.1 with h | h | h
        · exact .inl h
        · exact .inr ⟨h, not_lt.1 fun h' => hc (.inr ⟨h, h'⟩)⟩
        · exact absurd (.inl h) hc
    have trans : ∀ a : EReal × BitVec 32, (a.1 < w.1 ∨ (a.1 = w.1 ∧ w.2.toInt ≤ a.2.toInt)) → a.1 < r.1 ∨ (a.1 = r.1 ∧ r.2.toInt ≤ a.2.toInt) := by
      rintro a (h | ⟨h, h'⟩) <;> rcases hh with k | ⟨k, k'⟩
      · exact .inl (h.trans k)
      · exact .inl (k ▸ h)
      · exact .inl (h ▸ k)
      · exact .inr ⟨h.trans k, k'.trans h'⟩
    refine ⟨?_, fun a ha => ?_⟩
    · rcases List.mem_cons.1 h1 with h | h
      · rcases hw.1 with e | e
        · rw [h, e]; exact List.mem_cons_self
        · rw [h, e]; exact List.mem_cons_of_mem _ List.mem_cons_self
      · exact List.mem_cons_of_mem _ (List.mem_cons_of_mem _ h)
    · rcases List.mem_cons.1 ha with rfl | ha
      · exact trans _ hw.2.1
      rcases List.mem_cons.1 ha with rfl | ha
      · exact trans _ hw.2.2
      · exact hL a ha

/-- Over a row's pairs the fold ends with the row's first greatest index. -/
theorem argmax_first (L : List (EReal × BitVec 32)) (f : Fin 1000 → EReal) (hL : ∀ a, a ∈ L ↔ ∃ l : Fin 1000, a = (f l, BitVec.ofNat 32 l.val))
    (h : Row f) {p : Fin 1000} (hp : First f p) : (L.foldl (reducer_argmax_f32_i32 (F := Ideal)) (⊥, 0#32)).2 = BitVec.ofNat 32 p.val := by
  obtain ⟨h1, h2⟩ := argmax_fold L (⊥, 0#32)
  generalize L.foldl (reducer_argmax_f32_i32 (F := Ideal)) (⊥, 0#32) = r at h1 h2 ⊢
  have hall : ∀ l : Fin 1000, f l < r.1 ∨ (f l = r.1 ∧ r.2.toInt ≤ (BitVec.ofNat 32 l.val).toInt) := fun l =>
    h2 (f l, BitVec.ofNat 32 l.val) (List.mem_cons_of_mem _ ((hL _).2 ⟨l, rfl⟩))
  obtain ⟨q, hq⟩ := h.bot_lt
  rcases List.mem_cons.1 h1 with hr | hr
  · rw [hr] at hall
    rcases hall q with h' | h'
    · exact absurd h' not_lt_bot
    · exact absurd h'.1 hq.ne'
  · obtain ⟨l, hl⟩ := (hL r).1 hr
    rw [hl] at hall ⊢
    have hF : First f l := by
      refine ⟨fun q => ?_, fun q hlt => ?_⟩
      · rcases hall q with h' | h'
        · exact h'.le
        · exact h'.1.le
      · rcases hall q with h' | ⟨-, h'⟩
        · exact h'
        · have := q.isLt
          have := l.isLt
          rw [toInt_ofNat (by omega), toInt_ofNat (by omega)] at h'
          have := Fin.lt_def.1 hlt
          omega
    rw [hF.unique hp]

/-- A reduction of pairs is the fold over the fiber's pairs. -/
theorem argReduce_fold {s t u : Shape} {axes : List (Fin s.rank)} (f : EReal × BitVec 32 → EReal × BitVec 32 → EReal × BitVec 32) (x : FVec Ideal s .f32)
    (y : s.Idx → BitVec 32) (ix : FVec Ideal u .f32) (iy : u.Idx → BitVec 32) (h : s.ReducesTo axes t) (hu : 0 < u.numel) (j : t.Idx) :
    Host.argReduce (F := Ideal) (φ := .f32) f x y ix iy h hu j = (Host.argReduceFiber x y h j).foldl f (ix (Shape.Idx.first hu), iy (Shape.Idx.first hu)) := by
  rw [Ideal.argReduce_eq_reduce2, Host.reduce2_eq_foldl_fiber]

/-- The second parts of a family of pairs. -/
def seconds {ι α β : Type} (f : ι → α × β) : ι → β := fun i => (f i).2

/-- The second parts of two families with the same pair at an index. -/
theorem seconds_apply {ι α β : Type} (f : ι → α × β) (i : ι) (q : α × β) (h : f i = q) : seconds f i = q.2 := congrArg Prod.snd h

/-- The labels are the second parts of the reduction of pairs. -/
theorem labels_eq (x : FVec Ideal S5x32768x1000 .f32) :
    labels x = seconds (Host.argReduce (F := Ideal) (φ := .f32) reducer_argmax_f32_i32 x (iotaInDim S5x32768x1000 32 2) (constant S_ .f32 0xFF800000#32) (constantI S_ 32 0#32)
      reducesTo_S5x32768x1000_S5x32768_d2 h_S_) := rfl

/-- The labels are the fold over each row's pairs. -/
theorem labels_fold (x : FVec Ideal S5x32768x1000 .f32) (i : S5x32768.Idx) :
    labels x i = ((Host.argReduceFiber x (iotaInDim S5x32768x1000 32 2) reducesTo_S5x32768x1000_S5x32768_d2 i).foldl
      (reducer_argmax_f32_i32 (F := Ideal)) (constant (F := Ideal) S_ .f32 0xFF800000#32 (Shape.Idx.first h_S_), constantI S_ 32 0#32 (Shape.Idx.first h_S_))).2 := by
  rw [labels_eq]
  exact seconds_apply _ _ _ (argReduce_fold _ _ _ _ _ _ _ _)

/-- The fold starts from the least value and label zero. -/
theorem start_eq (i : S_.Idx) : ((constant (F := Ideal) S_ .f32 0xFF800000#32 i, constantI S_ 32 0#32 i) : EReal × BitVec 32) = (⊥, 0#32) :=
  Prod.ext bits_bot rfl

/-- A row's label is its first greatest index. -/
theorem labels_apply (x : FVec Ideal S5x32768x1000 .f32) (j : Fin 5) (b : Fin 32768) (h : Row (rowOf x j b)) {p : Fin 1000} (hp : First (rowOf x j b) p) :
    labels x (ix2 j b) = BitVec.ofNat 32 p.val := by
  have e := labels_fold x (ix2 j b)
  rw [start_eq] at e
  exact e.trans (argmax_first _ (rowOf x j b) (fun a => fiber_mem x j b a) h hp)

/-! ## The votes -/

/-- One row of the labels. -/
theorem labRow_apply (k : Fin 5) (h : S5x32768.Slices ![k.val, 0] S1x32768) (v : IVec S5x32768 32) (b : Fin 32768) :
    labRow k.val h v (ix1 b) = v (ix2 k b) := by
  pointwise [labRow]

/-- A word that is not negative stays as it is. -/
theorem fromEnd_apply (n : BitVec 32) (v : IVec S32768 32) (b : Fin 32768) {p : ℕ} (hp : p < 32768) (h : v (ix1 b) = BitVec.ofNat 32 p) :
    fromEnd n v (ix1 b) = BitVec.ofNat 32 p := by
  unfold fromEnd
  refine (Routing.wrap_of_lt _ _ ?_).trans h
  rw [h, BitVec.toNat_ofNat]
  omega

/-- The pairs' two columns. -/
theorem pairs_apply (rows lab : IVec S32768 32) (b : Fin 32768) :
    pairs rows lab (ix2 b 0) = fromEnd 32768#32 rows (ix1 b) ∧ pairs rows lab (ix2 b 1) = fromEnd 1000#32 lab (ix1 b) := by
  constructor <;> pointwise [pairs]

/-- The counts read at pairs `(r, c)`. -/
theorem gather_apply (t : IVec S32768x1000 32) (idx : IVec S32768x2 32) (b r : Fin 32768) (c : Fin 1000) (h0 : idx (ix2 b 0) = BitVec.ofNat 32 r.val) (h1 : idx (ix2 b 1) = BitVec.ofNat 32 c.val) :
    Host.gather gather_S32768x1000_S32768x2_S32768_n_01_n_n_01_1_11 t idx (ix1 b) = t (ix2 r c) := by
  have e0 : gather_S32768x1000_S32768x2_S32768_n_01_n_n_01_1_11.start (ix1 b) idx 0 = min (idx (ix2 b 0)).toInt.toNat 32767 := by
    refine congrArg (fun i => min (idx i).toInt.toNat 32767) (funext fun a => ?_)
    fin_cases a <;> rfl
  have e1 : gather_S32768x1000_S32768x2_S32768_n_01_n_n_01_1_11.start (ix1 b) idx 1 = min (idx (ix2 b 1)).toInt.toNat 999 := by
    refine congrArg (fun i => min (idx i).toInt.toNat 999) (funext fun a => ?_)
    fin_cases a <;> rfl
  have hr := r.isLt
  have hc := c.isLt
  refine congrArg t (funext fun a => Fin.ext ?_)
  match a with
  | ⟨0, _⟩ =>
    show gather_S32768x1000_S32768x2_S32768_n_01_n_n_01_1_11.start (ix1 b) idx 0 + 0 + 0 = r.val
    rw [e0, h0, toInt_ofNat (by omega)]; omega
  | ⟨1, _⟩ =>
    show gather_S32768x1000_S32768x2_S32768_n_01_n_n_01_1_11.start (ix1 b) idx 1 + 0 + 0 = c.val
    rw [e1, h1, toInt_ofNat (by omega)]; omega

/-- An update lands at the pair its two words name. -/
theorem scatter_lands (idx : IVec S32768x2 32) (b r : Fin 32768) (c : Fin 1000) :
    scatter_S32768x1000_S32768x2_S32768_n_01_01_1.resultIdx? (ix1 b) idx = some (ix2 r c) ↔ (idx (ix2 b 0)).toInt = r.val ∧ (idx (ix2 b 1)).toInt = c.val := by
  have e0 : scatter_S32768x1000_S32768x2_S32768_n_01_01_1.start (ix1 b) idx 0 = (idx (ix2 b 0)).toInt := by
    refine congrArg (fun i => (idx i).toInt) (funext fun a => ?_)
    fin_cases a <;> rfl
  have e1 : scatter_S32768x1000_S32768x2_S32768_n_01_01_1.start (ix1 b) idx 1 = (idx (ix2 b 1)).toInt := by
    refine congrArg (fun i => (idx i).toInt) (funext fun a => ?_)
    fin_cases a <;> rfl
  have w0 : scatter_S32768x1000_S32768x2_S32768_n_01_01_1.window (ix1 b) 0 = 0 := rfl
  have w1 : scatter_S32768x1000_S32768x2_S32768_n_01_01_1.window (ix1 b) 1 = 0 := rfl
  refine (Routing.resultIdx?_ix2 _ _ idx r c).trans ?_
  rw [e0, e1, w0, w1]
  omega

/-- A fold in which one position of a list without repeats acts. -/
theorem foldl_once {α ι : Type} (L : List ι) (hL : L.Nodup) (i : ι) (Q : Prop) [Decidable Q] (g : α → α) (P : ι → Prop) [DecidablePred P]
    (hP : ∀ n, P n ↔ n = i ∧ Q) (a : α) : (i ∉ L → L.foldl (fun a n => if P n then g a else a) a = a)
      ∧ (i ∈ L → L.foldl (fun a n => if P n then g a else a) a = if Q then g a else a) := by
  induction L generalizing a with
  | nil => exact ⟨fun _ => rfl, fun h => absurd h List.not_mem_nil⟩
  | cons n L ih =>
    obtain ⟨hn, hL⟩ := List.nodup_cons.1 hL
    rw [List.foldl_cons]
    constructor
    · intro h
      have h1 : n ≠ i := fun e => h (e ▸ List.mem_cons_self)
      rw [if_neg fun hp => h1 ((hP n).1 hp).1]
      exact (ih hL a).1 fun hm => h (List.mem_cons_of_mem _ hm)
    · intro h
      by_cases e : n = i
      · have h2 : i ∉ L := e ▸ hn
        rw [(ih hL _).1 h2]
        exact if_congr ((hP n).trans ⟨And.right, fun q => ⟨e, q⟩⟩) rfl rfl
      · rw [if_neg fun hp => e ((hP n).1 hp).1]
        exact (ih hL a).2 ((List.mem_cons.1 h).resolve_left fun e' => e e'.symm)

/-- One vote adds one to each row's count of its label. -/
theorem tally_apply (t : IVec S32768x1000 32) (rows lab : IVec S32768 32) (p : Fin 32768 → Fin 1000)
    (hr : ∀ b, rows (ix1 b) = BitVec.ofNat 32 b.val) (hl : ∀ b, lab (ix1 b) = BitVec.ofNat 32 (p b).val) (b : Fin 32768) (l : Fin 1000) :
    tally t rows lab (ix2 b l) = IntOp.addi (t (ix2 b l)) (ind (BitVec.ofNat 32 (p b).val) (BitVec.ofNat 32 l.val)) := by
  have hk (k : S32768.Idx) : k = ix1 (k 0) := by
    funext q; fin_cases q; rfl
  have hP : ∀ n : Fin S32768.numel, (scatter_S32768x1000_S32768x2_S32768_n_01_01_1.resultIdx? (S32768.rowMajor.symm n) (pairs rows lab) = some (ix2 b l))
      ↔ n = S32768.rowMajor (ix1 b) ∧ p b = l := by
    intro n
    rw [← Equiv.symm_apply_eq]
    generalize S32768.rowMajor.symm n = k
    obtain ⟨c, rfl⟩ : ∃ c : Fin 32768, k = ix1 c := ⟨k 0, hk k⟩
    have hc := c.isLt
    have hb := b.isLt
    have hpc := (p c).isLt
    rw [scatter_lands, (pairs_apply rows lab c).1, (pairs_apply rows lab c).2, fromEnd_apply _ _ _ hc (hr c), fromEnd_apply _ _ _ (by omega) (hl c),
      toInt_ofNat (by omega), toInt_ofNat (by omega)]
    constructor
    · rintro ⟨h1, h2⟩
      have e : c = b := Fin.ext (by omega)
      exact ⟨congrArg ix1 e, Fin.ext (by rw [← e]; omega)⟩
    · rintro ⟨h1, h2⟩
      have e : c = b := congrFun h1 0
      rw [e, h2]
      exact ⟨rfl, rfl⟩
  unfold tally
  rw [Routing.scatter_at]
  refine ((foldl_once _ (List.nodup_finRange _) (S32768.rowMajor (ix1 b)) (p b = l) (fun a => IntOp.addi a 1#32) _ hP _).2 (List.mem_finRange _)).trans ?_
  have hpb := (p b).isLt
  have hl := l.isLt
  unfold ind
  rw [WordCmp.cmpi_eq_eq]
  by_cases h : p b = l
  · rw [if_pos h, h, decide_eq_true rfl]; rfl
  · rw [if_neg h, decide_eq_false fun e => h (Fin.ext ((WordCmp.ofNat_eq_ofNat_iff (by omega) (by omega)).1 e))]
    exact (BitVec.add_zero _).symm

/-- The count read at each row's label. -/
theorem count_apply (t : IVec S32768x1000 32) (rows lab : IVec S32768 32) (p : Fin 32768 → Fin 1000)
    (hr : ∀ b, rows (ix1 b) = BitVec.ofNat 32 b.val) (hl : ∀ b, lab (ix1 b) = BitVec.ofNat 32 (p b).val) (b : Fin 32768) :
    count t rows lab (ix1 b) = t (ix2 b (p b)) := by
  have hpb := (p b).isLt
  refine gather_apply t (pairs rows lab) b b (p b) ?_ ?_
  · rw [(pairs_apply rows lab b).1]; exact fromEnd_apply _ _ _ b.isLt (hr b)
  · rw [(pairs_apply rows lab b).2]; exact fromEnd_apply _ _ _ (by omega) (hl b)

/-- The parts of a state of the votes. -/
theorem parts_mk (a : IVec S32768x1000 32) (b c : IVec S32768 32) : (Poll.mk a b c).tab = a ∧ (Poll.mk a b c).best = b ∧ (Poll.mk a b c).top = c :=
  ⟨rfl, rfl, rfl⟩

/-- The state after one vote. -/
theorem poll_parts (rows lab : IVec S32768 32) (s : Poll) : (poll rows lab s).tab = tally s.tab rows lab
    ∧ (poll rows lab s).best = select (cmpi .sgt (count (tally s.tab rows lab) rows lab) s.top) lab s.best
    ∧ (poll rows lab s).top = select (cmpi .sgt (count (tally s.tab rows lab) rows lab) s.top) (count (tally s.tab rows lab) rows lab) s.top := by
  unfold poll; exact parts_mk _ _ _

/-- A choice between two words by a comparison, at an index. -/
theorem vote_at (c t l z : IVec S32768 32) (i : S32768.Idx) : (select (cmpi .sgt c t) c t i, select (cmpi .sgt c t) l z i) = voteW (c i) (l i) (t i, z i) := rfl

/-- One vote, row by row. -/
theorem poll_apply (rows lab : IVec S32768 32) (s : Poll) (p : Fin 32768 → Fin 1000)
    (hr : ∀ b, rows (ix1 b) = BitVec.ofNat 32 b.val) (hl : ∀ b, lab (ix1 b) = BitVec.ofNat 32 (p b).val) (b : Fin 32768) :
    (∀ l : Fin 1000, (poll rows lab s).tab (ix2 b l) = IntOp.addi (s.tab (ix2 b l)) (ind (BitVec.ofNat 32 (p b).val) (BitVec.ofNat 32 l.val)))
      ∧ ((poll rows lab s).top (ix1 b), (poll rows lab s).best (ix1 b))
        = voteW (IntOp.addi (s.tab (ix2 b (p b))) (ind (BitVec.ofNat 32 (p b).val) (BitVec.ofNat 32 (p b).val))) (BitVec.ofNat 32 (p b).val)
          (s.top (ix1 b), s.best (ix1 b)) := by
  refine ⟨fun l => by rw [(poll_parts _ _ _).1]; exact tally_apply s.tab rows lab p hr hl b l, ?_⟩
  obtain ⟨-, e1, e2⟩ := poll_parts rows lab s
  rw [e1, e2, vote_at]
  have h1 := tally_apply s.tab rows lab p hr hl b (p b)
  have h2 := count_apply (tally s.tab rows lab) rows lab p hr hl b
  rw [h2, h1, hl]

/-- A word agrees with itself. -/
theorem ind_self (w : BitVec 32) : ind w w = 1#32 := by
  unfold ind
  rw [WordCmp.cmpi_eq_eq, decide_eq_true rfl]
  rfl

/-- The voted label of each row is the vote of its five labels. -/
theorem voted_apply (x : FVec Ideal S5x32768x1000 .f32) (p : Fin 5 → Fin 32768 → Fin 1000)
    (hl : ∀ j b, labels x (ix2 j b) = BitVec.ofNat 32 (p j b).val) (b : Fin 32768) :
    voted x (ix1 b) = bestW fun j => BitVec.ofNat 32 (p j b).val := by
  have hr : ∀ b : Fin 32768, iotaInDim S32768 32 0 (ix1 b) = BitVec.ofNat 32 b.val := fun b => rfl
  have hv : ∀ (k : Fin 5) (h : S5x32768.Slices ![k.val, 0] S1x32768) (b : Fin 32768), labRow k.val h (labels x) (ix1 b) = BitVec.ofNat 32 (p k b).val :=
    fun k h b => (labRow_apply k h _ b).trans (hl k b)
  unfold voted
  dsimp only
  have s0 := poll_apply (iotaInDim S32768 32 0) (labRow 0 slices_S5x32768_S1x32768_0_0 (labels x)) noVote (p 0) hr (hv 0 _) b
  generalize poll _ (labRow 0 slices_S5x32768_S1x32768_0_0 (labels x)) _ = p0 at *
  have s1 := poll_apply (iotaInDim S32768 32 0) (labRow 1 slices_S5x32768_S1x32768_1_0 (labels x)) p0 (p 1) hr (hv 1 _) b
  generalize poll _ (labRow 1 slices_S5x32768_S1x32768_1_0 (labels x)) _ = p1 at *
  have s2 := poll_apply (iotaInDim S32768 32 0) (labRow 2 slices_S5x32768_S1x32768_2_0 (labels x)) p1 (p 2) hr (hv 2 _) b
  generalize poll _ (labRow 2 slices_S5x32768_S1x32768_2_0 (labels x)) _ = p2 at *
  have s3 := poll_apply (iotaInDim S32768 32 0) (labRow 3 slices_S5x32768_S1x32768_3_0 (labels x)) p2 (p 3) hr (hv 3 _) b
  generalize poll _ (labRow 3 slices_S5x32768_S1x32768_3_0 (labels x)) _ = p3 at *
  have s4 := poll_apply (iotaInDim S32768 32 0) (labRow 4 slices_S5x32768_S1x32768_4_0 (labels x)) p3 (p 4) hr (hv 4 _) b
  generalize poll _ (labRow 4 slices_S5x32768_S1x32768_4_0 (labels x)) _ = p4 at *
  refine (congrArg Prod.snd s4.2).trans ?_
  rw [s3.2, s2.2, s1.2, s0.2, s3.1, s2.1, s2.1, s1.1, s1.1, s1.1, s0.1, s0.1, s0.1, s0.1]
  have z : ∀ l : Fin 1000, noVote.tab (ix2 b l) = 0#32 := fun l => rfl
  have z1 : noVote.top (ix1 b) = 0#32 := rfl
  have z2 : noVote.best (ix1 b) = 0#32 := rfl
  simp only [z, z1, z2, ind_self]
  unfold bestW
  have c0 : IntOp.addi 0#32 1#32 = 1#32 := rfl
  have c1 : ∀ u : BitVec 32, IntOp.addi (IntOp.addi 0#32 u) 1#32 = IntOp.addi 1#32 u := fun u => by
    show 0#32 + u + 1#32 = 1#32 + u; rw [BitVec.zero_add, BitVec.add_comm]
  have c2 : ∀ u v : BitVec 32, IntOp.addi (IntOp.addi u v) 1#32 = IntOp.addi (IntOp.addi u 1#32) v := fun u v => by
    show u + v + 1#32 = u + 1#32 + v; ac_rfl
  simp only [c2, c0, c1]

/-! ## The picked log-probabilities -/

/-- Entries less a spread maximum. -/
theorem sub_max (x : FVec Ideal S5x32768x1000 .f32) (z m : FVec Ideal S5x32768 .f32) (j : Fin 5) (b : Fin 32768) (l : Fin 1000) :
    subf x (broadcastInDim S5x32768x1000 ![0, 1, 2] bcast_S5x32768x1_S5x32768x1000_0_1_2 (broadcastInDim S5x32768x1 ![0, 1] bcast_S5x32768_S5x32768x1_0_1
      (maximumf z m))) (ix3 j b l) = x (ix3 j b l) - max (z (ix2 j b)) (m (ix2 j b)) := by
  pointwise

/-- Each row's maximum. -/
def rowMax (x : FVec Ideal S5x32768x1000 .f32) : FVec Ideal S5x32768 .f32 :=
  Host.reduce FloatOps.maximumf x (constant S_ .f32 0xFF800000#32) reducesTo_S5x32768x1000_S5x32768_d2 h_S_

/-- The shifted logits are the logits less the row's maximum. -/
theorem shifted_apply (x : FVec Ideal S5x32768x1000 .f32) (j : Fin 5) (b : Fin 32768) (l : Fin 1000) : shifted x (ix3 j b l) =
    x (ix3 j b l) - max (Ideal.ofBits .f32 0xFF800000#32) (rowMax x (ix2 j b)) :=
  sub_max x _ (rowMax x) j b l

/-- A row's maximum is the fold of its entries. -/
theorem rowMax_apply (x : FVec Ideal S5x32768x1000 .f32) (j : Fin 5) (b : Fin 32768) :
    rowMax x (ix2 j b) = Finset.fold max (Ideal.ofBits .f32 0xFF800000#32) (rowOf x j b) Finset.univ := by
  unfold rowMax rowOf
  pointwise

/-- The log-softmax of a row. -/
theorem soft_apply (x : FVec Ideal S5x32768x1000 .f32) (j : Fin 5) (b : Fin 32768) (h : Row (rowOf x j b)) (l : Fin 1000) :
    soft x (ix3 j b l) = rowOf x j b l - lse (rowOf x j b) := by
  have e : soft x (ix3 j b l) = shifted x (ix3 j b l) - Ideal.log (∑ q : Fin 1000, Ideal.exp (shifted x (ix3 j b q))) := by
    pointwise [soft]
  obtain ⟨m, hm⟩ : ∃ m : ℝ, max (Ideal.ofBits .f32 0xFF800000#32) (rowMax x (ix2 j b)) = (m : EReal) := by
    rw [rowMax_apply, bits_bot, max_eq_right bot_le]
    have h1 : Finset.fold max ⊥ (rowOf x j b) Finset.univ < ⊤ := (Finset.fold_max_lt _).2 ⟨bot_lt_top, fun q _ => h.lt_top q⟩
    have h2 : ⊥ < Finset.fold max ⊥ (rowOf x j b) Finset.univ := by
      obtain ⟨q, hq⟩ := h.bot_lt
      exact (Finset.lt_fold_max _).2 (.inr ⟨q, Finset.mem_univ _, hq⟩)
    exact ⟨_, (EReal.coe_toReal h1.ne h2.ne').symm⟩
  have hs : ∀ q : Fin 1000, shifted x (ix3 j b q) = rowOf x j b q - (m : EReal) := fun q => by rw [shifted_apply, hm]; rfl
  rw [e]
  simp only [hs]
  exact log_softmax h m l

/-- A place below the axis' extent lies on the axis. -/
theorem onAxis_apply (v : IVec S5x32768x1x1 32) (j : Fin 5) (b : Fin 32768) {p : ℕ} (hp : p < 1000) (h : v (ix4 j b 0 0) = BitVec.ofNat 32 p) : onAxis v (ix3 j b 0) = 1#1 := by
  have e : onAxis v (ix3 j b 0) = Finset.fold IntOp.andi (1#1) (fun q : Fin 1 => IntOp.andi (IntOp.cmpi .sge (v (ix4 j b 0 q)) 0#32) (IntOp.cmpi .sle (v (ix4 j b 0 q)) 999#32)) Finset.univ := by
    pointwise [onAxis]
  rw [e, show (Finset.univ : Finset (Fin 1)) = {0} from rfl, Finset.fold_singleton, h, WordCmp.cmpi_sge_eq, WordCmp.cmpi_sle_eq, toInt_ofNat (n := p) (by omega),
    decide_eq_true (show (0#32 : BitVec 32).toInt ≤ (p : ℤ) from by show (0 : ℤ) ≤ p; omega),
    decide_eq_true (show (p : ℤ) ≤ (999#32 : BitVec 32).toInt from by show (p : ℤ) ≤ 999; omega)]
  rfl

/-- The entries read at places on the axis. -/
theorem gather5_apply (y : FVec Ideal S5x32768x1000 .f32) (v : IVec S5x32768x1x1 32) (j : Fin 5) (b : Fin 32768) {p : Fin 1000} (h : v (ix4 j b 0 0) = BitVec.ofNat 32 p.val) :
  Host.gather gather_S5x32768x1000_S5x32768x1x1_S5x32768x1_n_2_01_01_2_3_111 y v (ix3 j b 0) = y (ix3 j b p) := by
  have e : gather_S5x32768x1000_S5x32768x1x1_S5x32768x1_n_2_01_01_2_3_111.start (ix3 j b 0) v 2 = min (v (ix4 j b 0 0)).toInt.toNat 999 := by
    refine congrArg (fun i => min (v i).toInt.toNat 999) (funext fun a => ?_)
    fin_cases a <;> rfl
  have hp := p.isLt
  refine congrArg y (funext fun a => Fin.ext ?_)
  match a with
  | ⟨0, _⟩ => exact (Nat.zero_add _).trans rfl
  | ⟨1, _⟩ => exact (Nat.zero_add _).trans rfl
  | ⟨2, _⟩ =>
    show gather_S5x32768x1000_S5x32768x1x1_S5x32768x1_n_2_01_01_2_3_111.start (ix3 j b 0) v 2 + 0 + 0 = p.val
    rw [e, h, toInt_ofNat (by omega)]; omega

/-- The voted labels as places. -/
theorem places_apply (v : IVec S5x32768x1 32) (j : Fin 5) (b : Fin 32768) {p : ℕ} (hp : p < 1000) (h : v (ix3 j b 0) = BitVec.ofNat 32 p) :
    places v (ix4 j b 0 0) = BitVec.ofNat 32 p := by
  have e : places v (ix4 j b 0 0) = Scalar.select (IntOp.cmpi .slt (v (ix3 j b 0)) 0#32) (IntOp.addi (v (ix3 j b 0)) 1000#32) (v (ix3 j b 0)) := by
    pointwise [places]
  rw [e]
  refine (Routing.wrap_of_lt _ _ ?_).trans h
  rw [h, BitVec.toNat_ofNat]
  omega

/-- The voted label, the same for every model. -/
theorem spread_apply (v : IVec S32768 32) (j : Fin 5) (b : Fin 32768) : spread v (ix3 j b 0) = v (ix1 b) := by pointwise [spread]

/-- The picked entry of a row. -/
theorem pickAt_apply (y : FVec Ideal S5x32768x1000 .f32) (v : IVec S5x32768x1x1 32) (j : Fin 5) (b : Fin 32768) {p : Fin 1000}
    (h : v (ix4 j b 0 0) = BitVec.ofNat 32 p.val) : pickAt y v (ix3 j b 0) = y (ix3 j b p) := by
  have e : pickAt y v (ix3 j b 0) = Scalar.select (onAxis v (ix3 j b 0))
      (Host.gather gather_S5x32768x1000_S5x32768x1x1_S5x32768x1_n_2_01_01_2_3_111 y v (ix3 j b 0)) (Ideal.ofBits .f32 0x7FC00000#32) := rfl
  rw [e, onAxis_apply v j b p.isLt h, gather5_apply y v j b h]
  rfl

/-- The loss from the picked entries. -/
theorem lossOf_apply (y : FVec Ideal S5x32768x1 .f32) (i : S_.Idx) :
    lossOf y i = -∑ j : Fin 5, Ideal.div (∑ b : Fin 32768, y (ix3 j b 0)) (Ideal.ofBits .f32 0x47000000#32) := by
  pointwise [lossOf]

/-- The loss: the negated sum over the models of the mean log-probability at the voted label. -/
theorem lossFn_apply (x : FVec Ideal S5x32768x1000 .f32) (h : ∀ j b, Row (rowOf x j b)) (p : Fin 5 → Fin 32768 → Fin 1000)
    (hp : ∀ j b, First (rowOf x j b) (p j b)) (i : S_.Idx) :
    lossFn x i = -∑ j : Fin 5, Ideal.div (∑ b : Fin 32768, (rowOf x j b (bestP fun k => p k b) - lse (rowOf x j b))) ((32768 : ℝ) : EReal) := by
  unfold lossFn
  rw [lossOf_apply, bits_batch]
  have hs : ∀ j b, pickAt (soft x) (places (spread (voted x))) (ix3 j b 0) = rowOf x j b (bestP fun k => p k b) - lse (rowOf x j b) := fun j b => by
    refine (pickAt_apply _ _ j b (p := bestP fun k => p k b) ?_).trans (soft_apply x j b (h j b) _)
    refine places_apply _ j b (bestP fun k => p k b).isLt ?_
    rw [spread_apply, voted_apply x p fun j b => labels_apply x j b (h j b) (hp j b), bestW_eq]
  simp only [hs]

end SelfLoss.Ref

end
-- ==== Proof.Match.lean ====
/-
  The two losses agree: the kernel's blocks partition the batch, and a mean of log-probabilities negated is
  the mean of the log-sum-exps less the picked logits.
-/
module

public import proofs.«01_k».proof.Proof.Array
public import proofs.«01_k».proof.Proof.RefVal

@[expose] public section

set_option maxRecDepth 16384

noncomputable section

namespace SelfLoss

open Idealize.ShloMosaic Idealize.ShloMosaic.TcCoe
open Cert.KernelIdeal Cert.KernelIdeal.Gen

/-- Dividing by the batch is multiplying by its reciprocal. -/
theorem div_batch (a : EReal) : Ideal.div a ((32768 : ℝ) : EReal) = a * (((32768 : ℝ)⁻¹ : ℝ) : EReal) := by
  unfold Ideal.div
  rw [if_neg (by exact_mod_cast (by norm_num : (32768 : ℝ) ≠ 0)), EReal.coe_inv]

/-- Lane `s` of block `t` is a row of the batch. -/
def lane (t : Fin 32) (s : Fin 1024) : Fin 32768 := ⟨1024 * t.val + s.val, by have := t.isLt; have := s.isLt; omega⟩

/-- A sum over the batch is the sum over the blocks of the sums over their lanes. -/
theorem sum_lanes (f : Fin 32768 → EReal) : ∑ t : Fin 32, ∑ s : Fin 1024, f (lane t s) = ∑ b, f b :=
  (sum_split (N := 32768) (m := 32) (n := 1024) (by norm_num) f).symm

/-- A row of a point's block is a row of the argument. -/
theorem row_eq (m : (ℓ : Loc nD τ sig) → Buf (Elt Ideal) ℓ) (c : Dev nD) (x : FVec Ideal S5x32768x1000 .f32)
    (hx : m ((c.tc : Thread nD τ).loc main_arg0) = x) (t : Fin 32) (h : t.val < cfg0.N) (j : Fin 5) (s : Fin 1024) :
    row (iblk m c 0 ⟨t.val, h⟩) j s = Ref.rowOf x j (lane t s) := by
  funext l
  rw [← hx]
  exact Kern.block_apply m c _ j l s _ rfl

/-- A point's partial loss, over rows of the argument. -/
theorem partial_eq (m : (ℓ : Loc nD τ sig) → Buf (Elt Ideal) ℓ) (c : Dev nD) (x : FVec Ideal S5x32768x1000 .f32)
    (hx : m ((c.tc : Thread nD τ).loc main_arg0) = x) (p : Fin 5 → Fin 32768 → Fin 1000) (hp : ∀ j b, First (Ref.rowOf x j b) (p j b)) (t : Fin 32) :
    Kern.partials m c (ix3 t 0 0) = ∑ s : Fin 1024, (∑ j, lse (Ref.rowOf x j (lane t s)) - ∑ j, Ref.rowOf x j (lane t s) (bestP fun k => p k (lane t s))) := by
  refine (block_value (iblk m c 0 ⟨t.val, lt_of_lt_of_eq t.isLt N_0.symm⟩) (fun j s => p j (lane t s))
      fun j s => by rw [row_eq m c x hx]; exact hp j _).trans (Finset.sum_congr rfl fun s _ => ?_)
  simp only [row_eq m c x hx]

/-- From the argument with every row below `⊤` and an entry above `⊥`, the kernel's loss is the reference's. -/
theorem loss_eq (m : (ℓ : Loc nD τ sig) → Buf (Elt Ideal) ℓ) (c : Dev nD) (x : FVec Ideal S5x32768x1000 .f32)
    (hx : m ((c.tc : Thread nD τ).loc main_arg0) = x) (h : ∀ j b, Row (Ref.rowOf x j b)) : Kern.lossFrom (Kern.partials m c) = Ref.lossFn x := by
  have hfirst : ∀ (j : Fin 5) (b : Fin 32768), ∃ p : Fin 1000, First (Ref.rowOf x j b) p := fun j b => exists_first (Ref.rowOf x j b)
  choose p hp using hfirst
  have hreal : ∀ (j : Fin 5) (b : Fin 32768), ∃ L : ℝ, lse (Ref.rowOf x j b) = (L : EReal) := fun j b => (lse_real (h j b)).imp fun _ h => h.1
  choose L hL using hreal
  funext i
  rw [Kern.lossFrom_apply, Ref.lossFn_apply x h p hp i]
  simp only [partial_eq m c x hx p hp, div_batch]
  rw [sum_lanes fun b => ∑ j, lse (Ref.rowOf x j b) - ∑ j, Ref.rowOf x j b (bestP fun k => p k b)]
  simp only [hL]
  exact (total L (fun j b => Ref.rowOf x j b (bestP fun k => p k b)) (fun j b => (h j b).lt_top _) (by norm_num)).symm

end SelfLoss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Bound
public import proofs.«01_k».proof.Proof.Match
public import Idealize.ShloMosaic.Adequacy
public import Idealize.ShloMosaic.Init

@[expose] public section

noncomputable section

namespace Cert.Proof

open Idealize.ShloMosaic Idealize.SL.Sem

/-- The reference's run leaves its argument as launched and every counter at zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0) :=
  (θ_run _ _ _).mono (fun _ h => ⟨fun c => (h.1 c).2, h.2⟩) (SelfLoss.Ref.run m g)

/-- Under the precondition the kernel and the reference end with the same loss. -/
theorem same_loss : Cert.algebraic_KernelIdeal_ReferenceIdeal_pre_rows_bounded (hKernelIdeal := Cert.KernelIdeal.Gen.facts)
    (hReferenceIdeal := Cert.ReferenceIdeal.Gen.facts) (hPre_rows_bounded := SelfLoss.Bound.facts) := by
  intro m g m' g' hpre hm
  refine ⟨fun c => SelfLoss.Kern.lossFrom (SelfLoss.Kern.partials m c), SelfLoss.Kern.run m g,
    (θ_run _ _ _).mono (fun r h c => ⟨(h.1 c).1.trans ?_, (h.1 c).2⟩) (SelfLoss.Ref.run m' g')⟩
  rw [hm c]
  exact (SelfLoss.loss_eq m c _ rfl fun j b => @SelfLoss.Bound.rows SelfLoss.Bound.facts _ (hpre c) j b).symm

/-- Everything the certificate claims: the frames, the ideal pass, and the equality of the losses. -/
theorem claim : Cert.Claim := ⟨Cert.Kernel.Gen.facts, Cert.KernelIdeal.Gen.facts, Cert.ReferenceIdeal.Gen.facts, SelfLoss.Bound.facts,
  fun m g _ => Cert.Kernel.Gen.frame m g, fun m g _ => Cert.KernelIdeal.Gen.frame m g, fun m g _ => Cert.KernelIdeal.Gen.frame m g,
  fun m g _ => reference_frame m g, fun m g _ => reference_frame m g, trivial, same_loss⟩

end Cert.Proof

end
